-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3584 : Shape := ⟨3, ![2, 1024, 3584]⟩
abbrev S3584 : Shape := ⟨1, ![3584]⟩
abbrev S3584x384 : Shape := ⟨2, ![3584, 384]⟩
abbrev S384 : Shape := ⟨1, ![384]⟩
abbrev S28x128 : Shape := ⟨2, ![28, 128]⟩
abbrev S3x128 : Shape := ⟨2, ![3, 128]⟩
abbrev S2x384x1024 : Shape := ⟨3, ![2, 384, 1024]⟩
abbrev S2x4x1024 : Shape := ⟨3, ![2, 4, 1024]⟩
abbrev S3x256x3584 : Shape := ⟨3, ![3, 256, 3584]⟩
abbrev S3584x768 : Shape := ⟨2, ![3584, 768]⟩
abbrev S48x1024 : Shape := ⟨2, ![48, 1024]⟩
abbrev S256x3584 : Shape := ⟨2, ![256, 3584]⟩
abbrev S256x768 : Shape := ⟨2, ![256, 768]⟩
abbrev S3 : Shape := ⟨1, ![3]⟩
abbrev S2 : Shape := ⟨1, ![2]⟩
abbrev S4 : Shape := ⟨1, ![4]⟩
abbrev S1 : Shape := ⟨1, ![1]⟩
abbrev S_ : Shape := ⟨0, ![]⟩
abbrev S1x256x3584 : Shape := ⟨3, ![1, 256, 3584]⟩
abbrev S1x128 : Shape := ⟨2, ![1, 128]⟩
abbrev S1x3584 : Shape := ⟨2, ![1, 3584]⟩
abbrev S1x384 : Shape := ⟨2, ![1, 384]⟩
abbrev S1x768 : Shape := ⟨2, ![1, 768]⟩
abbrev S256 : Shape := ⟨1, ![256]⟩
abbrev S256x1 : Shape := ⟨2, ![256, 1]⟩
abbrev S768x256 : Shape := ⟨2, ![768, 256]⟩
abbrev S48x256 : Shape := ⟨2, ![48, 256]⟩
abbrev S96x256 : Shape := ⟨2, ![96, 256]⟩
abbrev S1x256 : Shape := ⟨2, ![1, 256]⟩
abbrev S1x1x256 : Shape := ⟨3, ![1, 1, 256]⟩
abbrev S1x96x256 : Shape := ⟨3, ![1, 96, 256]⟩
abbrev S2x4x96x1024 : Shape := ⟨4, ![2, 4, 96, 1024]⟩
abbrev S2x1024x4x96 : Shape := ⟨4, ![2, 1024, 4, 96]⟩
abbrev S2x1024x4 : Shape := ⟨3, ![2, 1024, 4]⟩

abbrev nBuf : Space → Nat
  | .hbm => 19
  | .vmem => 13
  | .smem => 0
  | _ => 0

abbrev bufTy : (tb : Table) → Fin (tcTables nBuf tb) → BufTy
  | .hbm, ⟨0, _⟩ => ⟨S2x1024x3584, .bf16⟩
  | .hbm, ⟨1, _⟩ => ⟨S3584, .f32⟩
  | .hbm, ⟨2, _⟩ => ⟨S3584x384, .fp8e4m3⟩
  | .hbm, ⟨3, _⟩ => ⟨S384, .f32⟩
  | .hbm, ⟨4, _⟩ => ⟨S3584x384, .fp8e4m3⟩
  | .hbm, ⟨5, _⟩ => ⟨S384, .f32⟩
  | .hbm, ⟨6, _⟩ => ⟨S28x128, .f32⟩
  | .hbm, ⟨7, _⟩ => ⟨S3x128, .f32⟩
  | .hbm, ⟨8, _⟩ => ⟨S3x128, .f32⟩
  | .hbm, ⟨9, _⟩ => ⟨S2x384x1024, .fp8e4m3⟩
  | .hbm, ⟨10, _⟩ => ⟨S2x4x1024, .f32⟩
  | .hbm, ⟨11, _⟩ => ⟨S2x384x1024, .fp8e4m3⟩
  | .hbm, ⟨12, _⟩ => ⟨S2x4x1024, .f32⟩
  | .hbm, ⟨13, _⟩ => ⟨S2x4x96x1024, .fp8e4m3⟩
  | .hbm, ⟨14, _⟩ => ⟨S2x1024x4x96, .fp8e4m3⟩
  | .hbm, ⟨15, _⟩ => ⟨S2x4x96x1024, .fp8e4m3⟩
  | .hbm, ⟨16, _⟩ => ⟨S2x1024x4x96, .fp8e4m3⟩
  | .hbm, ⟨17, _⟩ => ⟨S2x1024x4, .f32⟩
  | .hbm, ⟨18, _⟩ => ⟨S2x1024x4, .f32⟩
  | .local _ .vmem, ⟨0, _⟩ => ⟨S3x256x3584, .bf16⟩
  | .local _ .vmem, ⟨1, _⟩ => ⟨S3584x768, .fp8e4m3⟩
  | .local _ .vmem, ⟨2, _⟩ => ⟨S2x384x1024, .fp8e4m3⟩
  | .local _ .vmem, ⟨3, _⟩ => ⟨S2x384x1024, .fp8e4m3⟩
  | .local _ .vmem, ⟨4, _⟩ => ⟨S2x4x1024, .f32⟩
  | .local _ .vmem, ⟨5, _⟩ => ⟨S2x4x1024, .f32⟩
  | .local _ .vmem, ⟨6, _⟩ => ⟨S48x1024, .f32⟩
  | .local _ .vmem, ⟨7, _⟩ => ⟨S48x1024, .f32⟩
  | .local _ .vmem, ⟨8, _⟩ => ⟨S256x3584, .bf16⟩
  | .local _ .vmem, ⟨9, _⟩ => ⟨S256x768, .f32⟩
  | .local _ .vmem, ⟨10, _⟩ => ⟨S28x128, .f32⟩
  | .local _ .vmem, ⟨11, _⟩ => ⟨S3x128, .f32⟩
  | .local _ .vmem, ⟨12, _⟩ => ⟨S3x128, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [FloatOps F]

abbrev grid0 : Pipeline.Grid := .none
-- ==== ReferenceIdeal.lean ====
abbrev S2x1024x3584 : Shape := ⟨3, ![2, 1024, 3584]⟩
abbrev S3584 : Shape := ⟨1, ![3584]⟩
abbrev S3584x384 : Shape := ⟨2, ![3584, 384]⟩
abbrev S384 : Shape := ⟨1, ![384]⟩
abbrev S2x1024x4x96 : Shape := ⟨4, ![2, 1024, 4, 96]⟩
abbrev S2x1024x4 : Shape := ⟨3, ![2, 1024, 4]⟩
abbrev S2x1024 : Shape := ⟨2, ![2, 1024]⟩
abbrev S2x1024x1 : Shape := ⟨3, ![2, 1024, 1]⟩
abbrev S1x1x3584 : Shape := ⟨3, ![1, 1, 3584]⟩
abbrev S1x1024 : Shape := ⟨2, ![1, 1024]⟩
abbrev S1024 : Shape := ⟨1, ![1024]⟩
abbrev S2x1024x384 : Shape := ⟨3, ![2, 1024, 384]⟩
abbrev S1x1x384 : Shape := ⟨3, ![1, 1, 384]⟩
abbrev S1x1024x1 : Shape := ⟨3, ![1, 1024, 1]⟩
abbrev S1x48 : Shape := ⟨2, ![1, 48]⟩
abbrev S48 : Shape := ⟨1, ![48]⟩
abbrev S1x1024x1x1 : Shape := ⟨4, ![1, 1024, 1, 1]⟩
abbrev S1x1x1x48 : Shape := ⟨4, ![1, 1, 1, 48]⟩
abbrev S1x1024x1x48 : Shape := ⟨4, ![1, 1024, 1, 48]⟩
abbrev S2x1024x4x48 : Shape := ⟨4, ![2, 1024, 4, 48]⟩
abbrev S2x1024x4x1 : Shape := ⟨4, ![2, 1024, 4, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x1024x3584, .bf16⟩
  | .hbm, ⟨1, _⟩ => ⟨S3584, .f32⟩
  | .hbm, ⟨2, _⟩ => ⟨S3584x384, .fp8e4m3⟩
  | .hbm, ⟨3, _⟩ => ⟨S384, .f32⟩
  | .hbm, ⟨4, _⟩ => ⟨S3584x384, .fp8e4m3⟩
  | .hbm, ⟨5, _⟩ => ⟨S384, .f32⟩
  | .hbm, ⟨6, _⟩ => ⟨S2x1024x4x96, .fp8e4m3⟩
  | .hbm, ⟨7, _⟩ => ⟨S2x1024x4, .f32⟩
  | .hbm, ⟨8, _⟩ => ⟨S2x1024x4x96, .fp8e4m3⟩
  | .hbm, ⟨9, _⟩ => ⟨S2x1024x4, .f32⟩
  | .local _ .vmem, ⟨0, _⟩ => ⟨S2x1024x3584, .bf16⟩
  | .local _ .vmem, ⟨1, _⟩ => ⟨S3584, .f32⟩
  | .local _ .vmem, ⟨2, _⟩ => ⟨S3584x384, .fp8e4m3⟩
  | .local _ .vmem, ⟨3, _⟩ => ⟨S384, .f32⟩
  | .local _ .vmem, ⟨4, _⟩ => ⟨S3584x384, .fp8e4m3⟩
  | .local _ .vmem, ⟨5, _⟩ => ⟨S384, .f32⟩
  | .local _ .vmem, ⟨6, _⟩ => ⟨S2x1024x4x96, .fp8e4m3⟩
  | .local _ .vmem, ⟨7, _⟩ => ⟨S2x1024x4, .f32⟩
  | .local _ .vmem, ⟨8, _⟩ => ⟨S2x1024x4x96, .fp8e4m3⟩
  | .local _ .vmem, ⟨9, _⟩ => ⟨S2x1024x4, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x4x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x4x96 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRun.lean ====
/-
  The run of the kernel's body, once, at any float instance: from its six operands, its four results and its thirteen
  scratch buffers held whole and its twelve DMA cells at zero, the body runs to its return. The operands come back
  unchanged, every cell at zero, and each result holds what the body's own copy out of the scratch wrote to it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The contents of a whole buffer of core `c`, and that buffer held whole at them. -/
abbrev HbBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : HbBuf (F := F) c M) : sProp 𝕄 :=
  M.view.loc (c : Thread nD τ) ↦{fullShare} f

/-- What a result holds after the run, over what the scratch buffers it can depend on held at the start. -/
abbrev Wit (c : Dev nD) {sp : Space} {S : Shape} {e : EltTy} (M : Memref sig .tc sp S e) : Type :=
  HbBuf (F := F) c (Memref.whole cc0_scratch0) → HbBuf (F := F) c (Memref.whole cc0_scratch2) → HbBuf (F := F) c (Memref.whole cc0_scratch3) → HbBuf (F := F) c (Memref.whole cc0_scratch4) → HbBuf (F := F) c (Memref.whole cc0_scratch5) → HbBuf (F := F) c (Memref.whole cc0_scratch10) → HbBuf (F := F) c (Memref.whole cc0_scratch11) → HbBuf (F := F) c (Memref.whole cc0_scratch12) → HbBuf (F := F) c (Memref.whole main_v3_0) → HbBuf (F := F) c (Memref.whole main_v3_1) → HbBuf (F := F) c (Memref.whole main_v3_2) → HbBuf (F := F) c (Memref.whole main_v3_3) → HbBuf (F := F) c M

set_option sl_exec.dmaWindow true in
/-- THE RUN. The two copies of the weights complete on one cell and are drained by two waits: a planned batch of two. -/
def kernelRun (c : Dev nD) (t : Fin cfg0.N)
    (a0 : HbBuf (F := F) c (Memref.whole main_arg0))
    (a1 : HbBuf (F := F) c (Memref.whole main_v0))
    (a2 : HbBuf (F := F) c (Memref.whole main_arg2))
    (a3 : HbBuf (F := F) c (Memref.whole main_v1))
    (a4 : HbBuf (F := F) c (Memref.whole main_arg4))
    (a5 : HbBuf (F := F) c (Memref.whole main_v2)) :
    { K : Wit (F := F) c (Memref.whole main_v3_0) × Wit (F := F) c (Memref.whole main_v3_1) × Wit (F := F) c (Memref.whole main_v3_2) × Wit (F := F) c (Memref.whole main_v3_3) //
      ∀ (o0 : HbBuf (F := F) c (Memref.whole main_v3_0)) (o1 : HbBuf (F := F) c (Memref.whole main_v3_1)) (o2 : HbBuf (F := F) c (Memref.whole main_v3_2)) (o3 : HbBuf (F := F) c (Memref.whole main_v3_3))
        (s0 : HbBuf (F := F) c (Memref.whole cc0_scratch0)) (s1 : HbBuf (F := F) c (Memref.whole cc0_scratch1)) (s2 : HbBuf (F := F) c (Memref.whole cc0_scratch2)) (s3 : HbBuf (F := F) c (Memref.whole cc0_scratch3)) (s4 : HbBuf (F := F) c (Memref.whole cc0_scratch4)) (s5 : HbBuf (F := F) c (Memref.whole cc0_scratch5)) (s6 : HbBuf (F := F) c (Memref.whole cc0_scratch6)) (s7 : HbBuf (F := F) c (Memref.whole cc0_scratch7)) (s8 : HbBuf (F := F) c (Memref.whole cc0_scratch8)) (s9 : HbBuf (F := F) c (Memref.whole cc0_scratch9)) (s10 : HbBuf (F := F) c (Memref.whole cc0_scratch10)) (s11 : HbBuf (F := F) c (Memref.whole cc0_scratch11)) (s12 : HbBuf (F := F) c (Memref.whole cc0_scratch12))
        (W : Waits sig Unit) (Q : PUnit → sProp 𝕄),
        iprop(pt c (Memref.whole main_arg0) a0
          ∗ pt c (Memref.whole main_v0) a1
          ∗ pt c (Memref.whole main_arg2) a2
          ∗ pt c (Memref.whole main_v1) a3
          ∗ pt c (Memref.whole main_arg4) a4
          ∗ pt c (Memref.whole main_v2) a5
          ∗ pt c (Memref.whole main_v3_0) o0
          ∗ pt c (Memref.whole main_v3_1) o1
          ∗ pt c (Memref.whole main_v3_2) o2
          ∗ pt c (Memref.whole main_v3_3) o3
          ∗ pt c (Memref.whole cc0_scratch0) s0
          ∗ pt c (Memref.whole cc0_scratch1) s1
          ∗ pt c (Memref.whole cc0_scratch2) s2
          ∗ pt c (Memref.whole cc0_scratch3) s3
          ∗ pt c (Memref.whole cc0_scratch4) s4
          ∗ pt c (Memref.whole cc0_scratch5) s5
          ∗ pt c (Memref.whole cc0_scratch6) s6
          ∗ pt c (Memref.whole cc0_scratch7) s7
          ∗ pt c (Memref.whole cc0_scratch8) s8
          ∗ pt c (Memref.whole cc0_scratch9) s9
          ∗ pt c (Memref.whole cc0_scratch10) s10
          ∗ pt c (Memref.whole cc0_scratch11) s11
          ∗ pt c (Memref.whole cc0_scratch12) s12
          ∗ semVal ((c : Thread nD τ), SemLoc.dma 0) 0
          ∗ semVal ((c : Thread nD τ), SemLoc.dma 1) 0
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ owes (c : Thread nD τ) 0 W
          ∗ (iprop(pt c (Memref.whole main_arg0) a0
          ∗ pt c (Memref.whole main_v0) a1
          ∗ pt c (Memref.whole main_arg2) a2
          ∗ pt c (Memref.whole main_v1) a3
          ∗ pt c (Memref.whole main_arg4) a4
          ∗ pt c (Memref.whole main_v2) a5
          ∗ pt c (Memref.whole main_v3_0) (K.1 s0 s2 s3 s4 s5 s10 s11 s12 o0 o1 o2 o3)
          ∗ pt c (Memref.whole main_v3_1) (K.2.1 s0 s2 s3 s4 s5 s10 s11 s12 o0 o1 o2 o3)
          ∗ pt c (Memref.whole main_v3_2) (K.2.2.1 s0 s2 s3 s4 s5 s10 s11 s12 o0 o1 o2 o3)
          ∗ pt c (Memref.whole main_v3_3) (K.2.2.2 s0 s2 s3 s4 s5 s10 s11 s12 o0 o1 o2 o3)
          ∗ (∃ f, pt c (Memref.whole cc0_scratch0) f)
          ∗ (∃ f, pt c (Memref.whole cc0_scratch1) f)
          ∗ (∃ f, pt c (Memref.whole cc0_scratch2) f)
          ∗ (∃ f, pt c (Memref.whole cc0_scratch3) f)
          ∗ (∃ f, pt c (Memref.whole cc0_scratch4) f)
          ∗ (∃ f, pt c (Memref.whole cc0_scratch5) f)
          ∗ (∃ f, pt c (Memref.whole cc0_scratch6) f)
          ∗ (∃ f, pt c (Memref.whole cc0_scratch7) f)
          ∗ (∃ f, pt c (Memref.whole cc0_scratch8) f)
          ∗ (∃ f, pt c (Memref.whole cc0_scratch9) f)
          ∗ (∃ f, pt c (Memref.whole cc0_scratch10) f)
          ∗ (∃ f, pt c (Memref.whole cc0_scratch11) f)
          ∗ (∃ f, pt c (Memref.whole cc0_scratch12) f)
          ∗ semVal ((c : Thread nD τ), SemLoc.dma 0) 0
          ∗ semVal ((c : Thread nD τ), SemLoc.dma 1) 0
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ ∃ W, owes (c : Thread nD τ) 0 W) -∗ Q ⟨⟩))
        ⊢ wp frame (wpE (defs₀ (F := F)) Variants.none c none) Set.univ (bodyAt0 t) Q } := by
  refine ⟨(?_, ?_, ?_, ?_), ?_⟩
  rotate_left 4
  intro o0 o1 o2 o3 s0 s1 s2 s3 s4 s5 s6 s7 s8 s9 s10 s11 s12 W Q
  have _plan : Transfers.BatchOf (c : Thread nD τ) (SemLoc.dma (sig := sig) 3) 2 (windows := true) := trivial
  unfold bodyAt0
  simp only [cc0_prefill_last_token_eq_skeleton]
  unfold cc0_prefill_last_token_skel
  iintro ⟨A0, A1, A2, A3, A4, A5, O0, O1, O2, O3, S0, S1, S2, S3, S4, S5, S6, S7, S8, S9, S10, S11, S12, D0, D1, D2, D3, D4, D5, D6, D7, D8, D9, D10, D11, HW, Hk⟩
  sl_exec_parts
  sl_step
  iapply Hk
  isplitl [A0]; · iexact A0
  isplitl [A1]; · iexact A1
  isplitl [A2]; · iexact A2
  isplitl [A3]; · iexact A3
  isplitl [A4]; · iexact A4
  isplitl [A5]; · iexact A5
  isplitl [O0]; · iexact O0
  isplitl [O1]; · iexact O1
  isplitl [O2]; · iexact O2
  isplitl [O3]; · iexact O3
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  iexists _; iexact HW

end Cert.Kernel.Hand

end
-- ==== Proof.KernelFrame.lean ====
/-
  The launch of the kernel: `Kernel`'s frame — @main terminates without fault, its six argument arrays end unchanged, every
  semaphore counter ends at zero. The body is the run of KernelRun.lean; its scratch buffers and cells are the region
  invariant's, its operands are read whole (`H0`) and its four results written whole (`R0`) by its own copies.
-/
module

public import proofs.«01_k».proof.Proof.KernelRun
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds -/

abbrev osem0 : Fin 12 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 12 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10, 11] (by decide) (by decide)]; rfl

/-- The operands the body reads whole. -/
def H0 : Finset (Ref sig .tc) := {main_arg0, main_v0, main_arg2, main_v1, main_arg4, main_v2}
theorem H0_sub : H0 ⊆ Pipeline.restRefs sig cfg0.spec := by decide
theorem hbmPts0_eq (c : Dev nD) (V : (b : Ref sig .tc) → Buf (Elt F) ((c : Thread nD τ).loc b)) :
    (bigSep H0 fun b => ((c.tc : Thread nD τ).loc b) ↦{fullShare} V b : sProp 𝕄)
      = iprop(pt c (Memref.whole main_arg0) (V main_arg0) ∗ pt c (Memref.whole main_v0) (V main_v0) ∗ pt c (Memref.whole main_arg2) (V main_arg2) ∗ pt c (Memref.whole main_v1) (V main_v1) ∗ pt c (Memref.whole main_arg4) (V main_arg4) ∗ pt c (Memref.whole main_v2) (V main_v2)) := by
  rw [BI.bigSep_eq_bigSepL_of_eq [main_arg0, main_v0, main_arg2, main_v1, main_arg4, main_v2] (by decide) (by decide)]; rfl

/-- The results the body writes whole. -/
def R0 : Finset (Ref sig .tc) := {main_v3_0, main_v3_1, main_v3_2, main_v3_3}
theorem R0_sub : R0 ⊆ Pipeline.restRefs sig cfg0.spec \ H0 := by decide
theorem resPts0_eq (c : Dev nD) (V : (b : Ref sig .tc) → Buf (Elt F) ((c : Thread nD τ).loc b)) :
    (bigSep R0 fun b => ((c.tc : Thread nD τ).loc b) ↦{fullShare} V b : sProp 𝕄)
      = iprop(pt c (Memref.whole main_v3_0) (V main_v3_0) ∗ pt c (Memref.whole main_v3_1) (V main_v3_1) ∗ pt c (Memref.whole main_v3_2) (V main_v3_2) ∗ pt c (Memref.whole main_v3_3) (V main_v3_3)) := by
  rw [BI.bigSep_eq_bigSepL_of_eq [main_v3_0, main_v3_1, main_v3_2, main_v3_3] (by decide) (by decide)]; rfl
theorem ownedPts0_eq (c : Dev nD) :
    (Pipeline.owned R0 c : sProp 𝕄)
      = iprop((∃ f, pt c (Memref.whole main_v3_0) f) ∗ (∃ f, pt c (Memref.whole main_v3_1) f) ∗ (∃ f, pt c (Memref.whole main_v3_2) f) ∗ (∃ f, pt c (Memref.whole main_v3_3) f)) := by
  unfold Pipeline.owned
  rw [BI.bigSep_eq_bigSepL_of_eq [main_v3_0, main_v3_1, main_v3_2, main_v3_3] (by decide) (by decide)]; rfl

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem defs₀_row (t : Fin cfg0.N) :
    defs₀ (F := F) .tc cfg0.body (cfg0.bodyArgs t (cfg0.slots t)) = bodyAt0 t := by
  unfold defs₀; rw [Defs.onTc_tc]

/-- The call stages no window: its windows' resources are empty. -/
theorem bigSep_W0 (X : Fin cfg0.W → sProp 𝕄) : (bigSep Finset.univ X : sProp 𝕄) = iprop(emp) := by
  rw [show (Finset.univ : Finset (Fin cfg0.W)) = ∅ from rfl]; exact bigSep_empty

/-! ## The body, its obligation and the run -/

def dats (_ : Fin 1) (c : Dev nD) : Dat τ (Elt F) Unit ℕ (Pipeline.UD sig nD τ) ℕ cfg0 c where
  A w := V m c (Pipeline.arrRef cfg0.spec w)
  after w _ := w.elim0
  Φ _ := Pipeline.ΦDR osem0 cfg0.spec H0 R0 (V m) c
  q _ := fullShare
  owed _ := 0

set_option maxHeartbeats 2000000 in
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  rw [show (dats m 0 c).Φ t.succ = (dats m 0 c).Φ t.castSucc from rfl]
  rw [show (dats m 0 c).Φ t.castSucc = Pipeline.ΦDR osem0 cfg0.spec H0 R0 (V m) c from rfl, Pipeline.ΦDR_eq,
    scopedRest0_eq, ownSems00_eq, hbmPts0_eq, ownedPts0_eq]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, Hg, ⟨D0, D1, D2, D3, D4, D5, D6, D7, D8, D9, D10, D11⟩, ⟨A0, A1, A2, A3, A4, A5⟩, ⟨⟨%o0, O0⟩, ⟨%o1, O1⟩, ⟨%o2, O2⟩, ⟨%o3, O3⟩⟩⟩, ⟨%W, -, HW⟩, He⟩
  iapply ((kernelRun c t (V m c main_arg0) (V m c main_v0) (V m c main_arg2) (V m c main_v1) (V m c main_arg4) (V m c main_v2)).2 o0 o1 o2 o3 s0 s1 s2 s3 s4 s5 s6 s7 s8 s9 s10 s11 s12 W _)
  isplitl [A0]; · iexact A0
  isplitl [A1]; · iexact A1
  isplitl [A2]; · iexact A2
  isplitl [A3]; · iexact A3
  isplitl [A4]; · iexact A4
  isplitl [A5]; · iexact A5
  isplitl [O0]; · iexact O0
  isplitl [O1]; · iexact O1
  isplitl [O2]; · iexact O2
  isplitl [O3]; · iexact O3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [HW]; · iexact HW
  iintro ⟨A0, A1, A2, A3, A4, A5, O0, O1, O2, O3, S0, S1, S2, S3, S4, S5, S6, S7, S8, S9, S10, S11, S12, D0, D1, D2, D3, D4, D5, D6, D7, D8, D9, D10, D11, ⟨%W', HW'⟩⟩
  isplitl [S0 S1 S2 S3 S4 S5 S6 S7 S8 S9 S10 S11 S12 Hg D0 D1 D2 D3 D4 D5 D6 D7 D8 D9 D10 D11 A0 A1 A2 A3 A4 A5 O0 O1 O2 O3]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [Hg]; · iexact Hg
    isplitl [D0 D1 D2 D3 D4 D5 D6 D7 D8 D9 D10 D11]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      iexact D11
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [O0]; · iexists _; iexact O0
    isplitl [O1]; · iexists _; iexact O1
    isplitl [O2]; · iexists _; iexact O2
    iexists _; iexact O3
  isplitl [HW']
  · iexists W'; isplitr; · ipureintro; exact fun _ _ => Or.inl trivial
    iexact HW'
  iexact He

theorem body_obligation (c : Dev nD) : BodyObligation (dats (F := F) m 0 c) (defs₀ (F := F)) Variants.none () Set.univ := fun t => by
  rw [bigSep_W0, bigSep_W0, defs₀_row]
  exact sound_body m c t

/-- What the lines after the call write. -/
def T0 : Finset (Ref sig .tc) := {main_v4, main_v5, main_v6, main_v7, main_v8, main_v9}

theorem sfx_T : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl
  all_goals
    intro b hb
    have hb' := Finset.mem_singleton.mp hb
    rw [Proc.devRef_injective _ hb']
    decide

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) sfx_sub sfx_fresh sfx_keeps sfx_T (hmain := hmainD m) (hA := fun _ w => w.elim0)
    (hin := fun _ => .rfl) (hout := fun _ => .rfl) (hQ' := fun _ h => h)

/-- THE FRAME, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KernelIdealRun.lean ====
/-
  The run of the kernel's body, once, at any float instance: from its six operands, its four results and its thirteen
  scratch buffers held whole and its twelve DMA cells at zero, the body runs to its return. The operands come back
  unchanged, every cell at zero, and each result holds what the body's own copy out of the scratch wrote to it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The contents of a whole buffer of core `c`, and that buffer held whole at them. -/
abbrev HbBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : HbBuf (F := F) c M) : sProp 𝕄 :=
  M.view.loc (c : Thread nD τ) ↦{fullShare} f

/-- What a result holds after the run, over what the scratch buffers it can depend on held at the start. -/
abbrev Wit (c : Dev nD) {sp : Space} {S : Shape} {e : EltTy} (M : Memref sig .tc sp S e) : Type :=
  HbBuf (F := F) c (Memref.whole cc0_scratch0) → HbBuf (F := F) c (Memref.whole cc0_scratch2) → HbBuf (F := F) c (Memref.whole cc0_scratch3) → HbBuf (F := F) c (Memref.whole cc0_scratch4) → HbBuf (F := F) c (Memref.whole cc0_scratch5) → HbBuf (F := F) c (Memref.whole cc0_scratch10) → HbBuf (F := F) c (Memref.whole cc0_scratch11) → HbBuf (F := F) c (Memref.whole cc0_scratch12) → HbBuf (F := F) c (Memref.whole main_v3_0) → HbBuf (F := F) c (Memref.whole main_v3_1) → HbBuf (F := F) c (Memref.whole main_v3_2) → HbBuf (F := F) c (Memref.whole main_v3_3) → HbBuf (F := F) c M

set_option sl_exec.dmaWindow true in
/-- THE RUN. The two copies of the weights complete on one cell and are drained by two waits: a planned batch of two. -/
def kernelRun (c : Dev nD) (t : Fin cfg0.N)
    (a0 : HbBuf (F := F) c (Memref.whole main_arg0))
    (a1 : HbBuf (F := F) c (Memref.whole main_v0))
    (a2 : HbBuf (F := F) c (Memref.whole main_arg2))
    (a3 : HbBuf (F := F) c (Memref.whole main_v1))
    (a4 : HbBuf (F := F) c (Memref.whole main_arg4))
    (a5 : HbBuf (F := F) c (Memref.whole main_v2)) :
    { K : Wit (F := F) c (Memref.whole main_v3_0) × Wit (F := F) c (Memref.whole main_v3_1) × Wit (F := F) c (Memref.whole main_v3_2) × Wit (F := F) c (Memref.whole main_v3_3) //
      ∀ (o0 : HbBuf (F := F) c (Memref.whole main_v3_0)) (o1 : HbBuf (F := F) c (Memref.whole main_v3_1)) (o2 : HbBuf (F := F) c (Memref.whole main_v3_2)) (o3 : HbBuf (F := F) c (Memref.whole main_v3_3))
        (s0 : HbBuf (F := F) c (Memref.whole cc0_scratch0)) (s1 : HbBuf (F := F) c (Memref.whole cc0_scratch1)) (s2 : HbBuf (F := F) c (Memref.whole cc0_scratch2)) (s3 : HbBuf (F := F) c (Memref.whole cc0_scratch3)) (s4 : HbBuf (F := F) c (Memref.whole cc0_scratch4)) (s5 : HbBuf (F := F) c (Memref.whole cc0_scratch5)) (s6 : HbBuf (F := F) c (Memref.whole cc0_scratch6)) (s7 : HbBuf (F := F) c (Memref.whole cc0_scratch7)) (s8 : HbBuf (F := F) c (Memref.whole cc0_scratch8)) (s9 : HbBuf (F := F) c (Memref.whole cc0_scratch9)) (s10 : HbBuf (F := F) c (Memref.whole cc0_scratch10)) (s11 : HbBuf (F := F) c (Memref.whole cc0_scratch11)) (s12 : HbBuf (F := F) c (Memref.whole cc0_scratch12))
        (W : Waits sig Unit) (Q : PUnit → sProp 𝕄),
        iprop(pt c (Memref.whole main_arg0) a0
          ∗ pt c (Memref.whole main_v0) a1
          ∗ pt c (Memref.whole main_arg2) a2
          ∗ pt c (Memref.whole main_v1) a3
          ∗ pt c (Memref.whole main_arg4) a4
          ∗ pt c (Memref.whole main_v2) a5
          ∗ pt c (Memref.whole main_v3_0) o0
          ∗ pt c (Memref.whole main_v3_1) o1
          ∗ pt c (Memref.whole main_v3_2) o2
          ∗ pt c (Memref.whole main_v3_3) o3
          ∗ pt c (Memref.whole cc0_scratch0) s0
          ∗ pt c (Memref.whole cc0_scratch1) s1
          ∗ pt c (Memref.whole cc0_scratch2) s2
          ∗ pt c (Memref.whole cc0_scratch3) s3
          ∗ pt c (Memref.whole cc0_scratch4) s4
          ∗ pt c (Memref.whole cc0_scratch5) s5
          ∗ pt c (Memref.whole cc0_scratch6) s6
          ∗ pt c (Memref.whole cc0_scratch7) s7
          ∗ pt c (Memref.whole cc0_scratch8) s8
          ∗ pt c (Memref.whole cc0_scratch9) s9
          ∗ pt c (Memref.whole cc0_scratch10) s10
          ∗ pt c (Memref.whole cc0_scratch11) s11
          ∗ pt c (Memref.whole cc0_scratch12) s12
          ∗ semVal ((c : Thread nD τ), SemLoc.dma 0) 0
          ∗ semVal ((c : Thread nD τ), SemLoc.dma 1) 0
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ owes (c : Thread nD τ) 0 W
          ∗ (iprop(pt c (Memref.whole main_arg0) a0
          ∗ pt c (Memref.whole main_v0) a1
          ∗ pt c (Memref.whole main_arg2) a2
          ∗ pt c (Memref.whole main_v1) a3
          ∗ pt c (Memref.whole main_arg4) a4
          ∗ pt c (Memref.whole main_v2) a5
          ∗ pt c (Memref.whole main_v3_0) (K.1 s0 s2 s3 s4 s5 s10 s11 s12 o0 o1 o2 o3)
          ∗ pt c (Memref.whole main_v3_1) (K.2.1 s0 s2 s3 s4 s5 s10 s11 s12 o0 o1 o2 o3)
          ∗ pt c (Memref.whole main_v3_2) (K.2.2.1 s0 s2 s3 s4 s5 s10 s11 s12 o0 o1 o2 o3)
          ∗ pt c (Memref.whole main_v3_3) (K.2.2.2 s0 s2 s3 s4 s5 s10 s11 s12 o0 o1 o2 o3)
          ∗ (∃ f, pt c (Memref.whole cc0_scratch0) f)
          ∗ (∃ f, pt c (Memref.whole cc0_scratch1) f)
          ∗ (∃ f, pt c (Memref.whole cc0_scratch2) f)
          ∗ (∃ f, pt c (Memref.whole cc0_scratch3) f)
          ∗ (∃ f, pt c (Memref.whole cc0_scratch4) f)
          ∗ (∃ f, pt c (Memref.whole cc0_scratch5) f)
          ∗ (∃ f, pt c (Memref.whole cc0_scratch6) f)
          ∗ (∃ f, pt c (Memref.whole cc0_scratch7) f)
          ∗ (∃ f, pt c (Memref.whole cc0_scratch8) f)
          ∗ (∃ f, pt c (Memref.whole cc0_scratch9) f)
          ∗ (∃ f, pt c (Memref.whole cc0_scratch10) f)
          ∗ (∃ f, pt c (Memref.whole cc0_scratch11) f)
          ∗ (∃ f, pt c (Memref.whole cc0_scratch12) f)
          ∗ semVal ((c : Thread nD τ), SemLoc.dma 0) 0
          ∗ semVal ((c : Thread nD τ), SemLoc.dma 1) 0
          ∗ semVal ((c : Thread nD τ), SemLoc.dma 2) 0
          ∗ semVal ((c : Thread nD τ), SemLoc.dma 3) 0
          ∗ semVal ((c : Thread nD τ), SemLoc.dma 4) 0
          ∗ semVal ((c : Thread nD τ), SemLoc.dma 5) 0
          ∗ semVal ((c : Thread nD τ), SemLoc.dma 6) 0
          ∗ semVal ((c : Thread nD τ), SemLoc.dma 7) 0
          ∗ semVal ((c : Thread nD τ), SemLoc.dma 8) 0
          ∗ semVal ((c : Thread nD τ), SemLoc.dma 9) 0
          ∗ semVal ((c : Thread nD τ), SemLoc.dma 10) 0
          ∗ semVal ((c : Thread nD τ), SemLoc.dma 11) 0
          ∗ ∃ W, owes (c : Thread nD τ) 0 W) -∗ Q ⟨⟩))
        ⊢ wp frame (wpE (defs₀ (F := F)) Variants.none c none) Set.univ (bodyAt0 t) Q } := by
  refine ⟨(?_, ?_, ?_, ?_), ?_⟩
  rotate_left 4
  intro o0 o1 o2 o3 s0 s1 s2 s3 s4 s5 s6 s7 s8 s9 s10 s11 s12 W Q
  have _plan : Transfers.BatchOf (c : Thread nD τ) (SemLoc.dma (sig := sig) 3) 2 (windows := true) := trivial
  unfold bodyAt0
  simp only [cc0_prefill_last_token_eq_skeleton]
  unfold cc0_prefill_last_token_skel
  iintro ⟨A0, A1, A2, A3, A4, A5, O0, O1, O2, O3, S0, S1, S2, S3, S4, S5, S6, S7, S8, S9, S10, S11, S12, D0, D1, D2, D3, D4, D5, D6, D7, D8, D9, D10, D11, HW, Hk⟩
  sl_exec_parts
  sl_step
  iapply Hk
  isplitl [A0]; · iexact A0
  isplitl [A1]; · iexact A1
  isplitl [A2]; · iexact A2
  isplitl [A3]; · iexact A3
  isplitl [A4]; · iexact A4
  isplitl [A5]; · iexact A5
  isplitl [O0]; · iexact O0
  isplitl [O1]; · iexact O1
  isplitl [O2]; · iexact O2
  isplitl [O3]; · iexact O3
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [S10]; · iexists _; iexact S10
  isplitl [S11]; · iexists _; iexact S11
  isplitl [S12]; · iexists _; iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  iexists _; iexact HW

end Cert.KernelIdeal.Hand

end
-- ==== Proof.KernelIdealReads.lean ====
module

public import proofs.«01_k».proof.Proof.KernelIdealRun
public import Idealize.ShloMosaic.Lib.Pointwise
public import Idealize.ShloMosaic.Lib.ValueLayout
public import Idealize.ShloMosaic.Lib.VecWindow
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of token blocks -/

/-- Slot `i` of the ring of three token blocks, as the copies see it. -/
abbrev slotV (i : ℕ) (hi : ∀ a, (![i, 0, 0] : Fin 3 → ℕ) a + S1x256x3584.size a ≤ S3x256x3584.size a) :=
  (((Memref.whole cc0_scratch0).slice (Rect.unit ![i, 0, 0] S1x256x3584.size hi) (fun _ => rfl)).squeeze S256x3584 squeezes_S1x256x3584_S256x3584).view

/-- A row of a block without its unit axis, and with it put back. -/
theorem squeeze_row (h : S256x3584.numel = S1x256x3584.numel) (y : S256x3584.Idx) : Shape.reshapeEquiv h y = ix3 0 (y 0) (y 1) := by
  idx_vars y
  pointwise

theorem slotV_emb (i : ℕ) (hi) (x : S1x256x3584.Idx) :
    (slotV i hi).emb (ix2 (x 1) (x 2)) = (Rect.unit (s := S3x256x3584) ![i, 0, 0] S1x256x3584.size hi).emb x := by
  refine congrArg (Rect.unit (s := S3x256x3584) ![i, 0, 0] S1x256x3584.size hi).emb
    ((squeeze_row (Shape.Squeezes.numel_eq squeezes_S1x256x3584_S256x3584) (ix2 (x 1) (x 2))).trans ?_)
  idx_vars x
  obtain rfl : x0 = 0 := Subsingleton.elim _ _
  rfl

theorem slot_same (c : Dev nD) (i : ℕ) (hi hi') (f : HbBuf (F := F) c (Memref.whole cc0_scratch0)) (p : Vec F S256x3584 .bf16) :
    View.readAt (Elt F) (Memref.whole cc0_scratch0).view (Rect.unit (s := S3x256x3584) ![i, 0, 0] S1x256x3584.size hi).toLoadRect
      (View.write (Elt F) (slotV i hi') f p Finset.univ) = fun x : S1x256x3584.Idx => p (ix2 (x 1) (x 2)) := by
  funext x
  show View.write (Elt F) (slotV i hi') f p Finset.univ ((Rect.unit (s := S3x256x3584) ![i, 0, 0] S1x256x3584.size hi).emb x) = _
  rw [← slotV_emb, View.write_emb_of_mem (h := Finset.mem_univ _)]
  rfl

theorem slot_other (c : Dev nD) (i j : ℕ) (hij : i ≠ j) (hi hj) (f : HbBuf (F := F) c (Memref.whole cc0_scratch0)) (p : Vec F S256x3584 .bf16) :
    View.readAt (Elt F) (Memref.whole cc0_scratch0).view (Rect.unit (s := S3x256x3584) ![i, 0, 0] S1x256x3584.size hi).toLoadRect
      (View.write (Elt F) (slotV j hj) f p Finset.univ)
    = View.readAt (Elt F) (Memref.whole cc0_scratch0).view (Rect.unit (s := S3x256x3584) ![i, 0, 0] S1x256x3584.size hi).toLoadRect f := by
  funext x
  show View.write (Elt F) (slotV j hj) f p Finset.univ ((Rect.unit (s := S3x256x3584) ![i, 0, 0] S1x256x3584.size hi).emb x)
    = f ((Rect.unit (s := S3x256x3584) ![i, 0, 0] S1x256x3584.size hi).emb x)
  refine View.write_of_not_mem (h := ?_) ..
  intro hmem
  obtain ⟨y, -, hy⟩ := Finset.mem_map.mp hmem
  have hy' : (Rect.unit (s := S3x256x3584) ![j, 0, 0] S1x256x3584.size hj).emb (Shape.reshapeEquiv (Shape.Squeezes.numel_eq squeezes_S1x256x3584_S256x3584) y)
      = (Rect.unit (s := S3x256x3584) ![i, 0, 0] S1x256x3584.size hi).emb x := hy
  rw [squeeze_row (Shape.Squeezes.numel_eq squeezes_S1x256x3584_S256x3584) y] at hy'
  have h0 := congrArg Fin.val (congrFun hy' 0)
  have e : j + 1 * 0 = i + 1 * (x 0).val := h0
  have : (x 0).val < 1 := (x 0).isLt
  omega

/-- A token block of `x`: 256 tokens of batch row `b`, block `lb` of the four. -/
def xBlk (c : Dev nD) (a : HbBuf (F := F) c (Memref.whole main_arg0)) (b : Fin 2) (lb : Fin 4) : Vec F S1x256x3584 .bf16 := fun x =>
  a (ix3 b ⟨256 * lb.val + (x 1).val, by have h1 : (x 1).val < 256 := (x 1).isLt; have := lb.isLt; omega⟩ (x 2))

/-- What a copy of a token block carries. -/
theorem block_read (c : Dev nD) (b : Fin 2) (lb : Fin 4) (o : ℕ) (ho : o = 256 * lb.val) (h) (a : HbBuf (F := F) c (Memref.whole main_arg0)) (x : S1x256x3584.Idx) :
    (ReadAs.same.apply (View.read (Elt F)
      (((Memref.whole main_arg0).slice (Rect.unit ![b.val, o, 0] S1x256x3584.size h) (fun _ => rfl)).squeeze S256x3584 squeezes_S1x256x3584_S256x3584).view a)
        : Vec F S256x3584 .bf16) (ix2 (x 1) (x 2))
    = xBlk c a b lb x := by
  subst ho
  refine (congrArg (fun z => a ((Rect.unit (s := S2x1024x3584) ![b.val, 256 * lb.val, 0] S1x256x3584.size h).emb z))
    (squeeze_row (Shape.Squeezes.numel_eq squeezes_S1x256x3584_S256x3584) (ix2 (x 1) (x 2)))).trans ?_
  refine congrArg a (funext fun i => Fin.ext ?_)
  fin_cases i
  · show b.val + 1 * 0 = b.val; omega
  · show 256 * lb.val + 1 * (x 1).val = 256 * lb.val + (x 1).val; omega
  · show 0 + 1 * (x 2).val = (x 2).val; omega

variable (c : Dev nD) (a0 : HbBuf (F := F) c (Memref.whole main_arg0)) (s0 : HbBuf (F := F) c (Memref.whole cc0_scratch0))

theorem x_0 : kernelRun.sl.v107 c a0 s0 = xBlk c a0 0 0 :=
  (slot_other c 0 2 (by decide) _ _ _ _).trans <| (slot_other c 0 1 (by decide) _ _ _ _).trans <| (slot_same c 0 _ _ _ _).trans <|
    funext fun x => block_read c 0 0 0 rfl _ a0 x
theorem x_1 : kernelRun.sl.v454 c a0 s0 = xBlk c a0 0 1 :=
  (slot_other c 1 0 (by decide) _ _ _ _).trans <| (slot_other c 1 2 (by decide) _ _ _ _).trans <| (slot_same c 1 _ _ _ _).trans <|
    funext fun x => block_read c 0 1 256 rfl _ a0 x
theorem x_2 : kernelRun.sl.v801 c a0 s0 = xBlk c a0 0 2 :=
  (slot_other c 2 1 (by decide) _ _ _ _).trans <| (slot_other c 2 0 (by decide) _ _ _ _).trans <| (slot_same c 2 _ _ _ _).trans <|
    funext fun x => block_read c 0 2 512 rfl _ a0 x
theorem x_3 : kernelRun.sl.v1148 c a0 s0 = xBlk c a0 0 3 :=
  (slot_other c 0 2 (by decide) _ _ _ _).trans <| (slot_other c 0 1 (by decide) _ _ _ _).trans <| (slot_same c 0 _ _ _ _).trans <|
    funext fun x => block_read c 0 3 768 rfl _ a0 x
theorem x_4 : kernelRun.sl.v1495 c a0 s0 = xBlk c a0 1 0 :=
  (slot_other c 1 0 (by decide) _ _ _ _).trans <| (slot_other c 1 2 (by decide) _ _ _ _).trans <| (slot_same c 1 _ _ _ _).trans <|
    funext fun x => block_read c 1 0 0 rfl _ a0 x
theorem x_5 : kernelRun.sl.v1842 c a0 s0 = xBlk c a0 1 1 :=
  (slot_other c 2 1 (by decide) _ _ _ _).trans <| (slot_other c 2 0 (by decide) _ _ _ _).trans <| (slot_same c 2 _ _ _ _).trans <|
    funext fun x => block_read c 1 1 256 rfl _ a0 x
theorem x_6 : kernelRun.sl.v2183 c a0 s0 = xBlk c a0 1 2 :=
  (slot_other c 0 1 (by decide) _ _ _ _).trans <| (slot_same c 0 _ _ _ _).trans <| funext fun x => block_read c 1 2 512 rfl _ a0 x
theorem x_7 : kernelRun.sl.v2524 c a0 s0 = xBlk c a0 1 3 :=
  (slot_same c 1 _ _ _ _).trans <| funext fun x => block_read c 1 3 768 rfl _ a0 x

end Cert.KernelIdeal.Hand

end
-- ==== Proof.KernelIdealLoads.lean ====
module

public import proofs.«01_k».proof.Proof.KernelIdealReads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one block of tokens computes -/

/-- The normalised block, in bf16: `g` is the norm's gain, `x` the block. -/
def hbOf (g : FVec F S1x3584 .f32) (x : Vec F S1x256x3584 .bf16) : FVec F S256x3584 .bf16 := k0_pay6 g x

/-- Its K and V projections, side by side. -/
def accOf (s : FVec F S1x768 .f32) (h : Vec F S256x3584 .bf16) (w : Vec F S3584x768 .fp8e4m3) : FVec F S256x768 .f32 := k0_pay8 (k0_pay7 s h w)

theorem slices_half (h : Fin 4) : S768x256.Slices ![96 * h.val, 0] S48x256 := by revert h; decide
theorem slices_half' (h : Fin 4) : S768x256.Slices ![96 * h.val + 48, 0] S48x256 := by revert h; decide
theorem slices_head (h : Fin 4) : S768x256.Slices ![96 * h.val + 384, 0] S96x256 := by revert h; decide

/-- The keys of head `h` of the block, rotated: cosines `C`, sines `S`. -/
def kBlk (h : Fin 4) (A : Vec F S256x768 .f32) (C S : Vec F S48x256 .f32) : FVec F S96x256 .f32 :=
  have k1 : FVec F S48x256 .f32 := extractStridedSlice S48x256 ![96 * h.val, 0] (k0_pay9 A) (slices_half h)
  have k2 : FVec F S48x256 .f32 := extractStridedSlice S48x256 ![96 * h.val + 48, 0] (k0_pay9 A) (slices_half' h)
  concatenate S96x256 0 [⟨S48x256, subf (mulf k1 C) (mulf k2 S)⟩, ⟨S48x256, addf (mulf k2 C) (mulf k1 S)⟩] concatenates_S48x256_S48x256_S96x256_d0

/-- The values of head `h` of the block. -/
def vBlk (h : Fin 4) (A : Vec F S256x768 .f32) : FVec F S96x256 .f32 := extractStridedSlice S96x256 ![96 * h.val + 384, 0] (k0_pay9 A) (slices_head h)

/-- The exponent of each column's power-of-two scale. -/
def expOf (v : FVec F S96x256 .f32) : FVec F S1x256 .f32 :=
  have a : FVec F S1x256 .f32 := shapeCast S1x256 (multiReduction .maximumf [0] S256 (absf v) 0xFF800000#32 reduces_S96x256_S256 (.inl rfl) rfl) shapeCasts_S256_S1x256
  select (cmpf .oeq a (broadcast S1x256 (Scalar.ofBits .f32 0x00000000#32 : F .f32))) (broadcast S1x256 (Scalar.ofBits .f32 0x00000000#32 : F .f32))
    (addf (floor (divf (log (mulf a (broadcast S1x256 (Scalar.ofBits .f32 0x3B124925#32 : F .f32)))) (log (broadcast S1x256 (Scalar.ofBits .f32 0x40000000#32 : F .f32)))))
      (broadcast S1x256 (Scalar.ofBits .f32 0x3F800000#32 : F .f32)))

/-- The scales of the columns, as they are stored. -/
def scaleOf (v : FVec F S96x256 .f32) : FVec F S1x1x256 .f32 := shapeCast S1x1x256 (exp2 (expOf v)) shapeCasts_S1x256_S1x1x256

/-- The codes of the columns, as they are stored. -/
def codesOf (v : FVec F S96x256 .f32) : FVec F S1x96x256 .fp8e4m3 :=
  shapeCast S1x96x256 (truncf .fp8e4m3 (minimumf (broadcast S96x256 (Scalar.ofBits .f32 0x43E00000#32 : F .f32))
    (maximumf (broadcast S96x256 (Scalar.ofBits .f32 0xC3E00000#32 : F .f32))
      (mulf v (broadcastTo S96x256 (exp2 (subf (broadcast S1x256 (Scalar.ofBits .f32 0x00000000#32 : F .f32)) (expOf v))) broadcasts_S1x256_S96x256)))) bitsLt_fp8e4m3_f32)
    shapeCasts_S96x256_S1x96x256

/-! ## What the run loads -/

variable (c : Dev nD)
  (a0 : HbBuf (F := F) c (Memref.whole main_arg0)) (a1 : HbBuf (F := F) c (Memref.whole main_v0)) (a2 : HbBuf (F := F) c (Memref.whole main_arg2))
  (a3 : HbBuf (F := F) c (Memref.whole main_v1)) (a4 : HbBuf (F := F) c (Memref.whole main_arg4)) (a5 : HbBuf (F := F) c (Memref.whole main_v2))
  (s0 : HbBuf (F := F) c (Memref.whole cc0_scratch0)) (s10 : HbBuf (F := F) c (Memref.whole cc0_scratch10))
  (s11 : HbBuf (F := F) c (Memref.whole cc0_scratch11)) (s12 : HbBuf (F := F) c (Memref.whole cc0_scratch12))

/-- Row `i` of the gain's 28 rows of 128, loaded after its copy has landed. -/
theorem gain_row (i : ℕ) (hi : i < 28) (h) :
    View.readAt (Elt F) (Memref.whole cc0_scratch10).view (Rect.unit (s := S28x128) ![i, 0] S1x128.size h).toLoadRect
      (View.write (Elt F) (Memref.whole cc0_scratch10).view s10 (kernelRun.sl.dma0_1 c a1) Finset.univ) = fun x : S1x128.Idx => a1 (ix2 ⟨i, hi⟩ (x 1)) := by
  funext x
  show View.write (Elt F) (Memref.whole cc0_scratch10).view s10 (kernelRun.sl.dma0_1 c a1) Finset.univ
    ((Memref.whole cc0_scratch10).view.emb ((Rect.unit (s := S28x128) ![i, 0] S1x128.size h).emb x)) = _
  rw [View.write_emb_of_mem (h := Finset.mem_univ _)]
  refine congrArg a1 (funext fun a => Fin.ext ?_)
  fin_cases a
  · show i + 1 * (x 0).val = i
    have : (x 0).val < 1 := (x 0).isLt
    omega
  · show 0 + 1 * (x 1).val = (x 1).val; omega

theorem sk_row (i : ℕ) (hi : i < 3) (h) :
    View.readAt (Elt F) (Memref.whole cc0_scratch11).view (Rect.unit (s := S3x128) ![i, 0] S1x128.size h).toLoadRect
      (View.write (Elt F) (Memref.whole cc0_scratch11).view s11 (kernelRun.sl.dma0_2 c a3) Finset.univ) = fun x : S1x128.Idx => a3 (ix2 ⟨i, hi⟩ (x 1)) := by
  funext x
  show View.write (Elt F) (Memref.whole cc0_scratch11).view s11 (kernelRun.sl.dma0_2 c a3) Finset.univ
    ((Memref.whole cc0_scratch11).view.emb ((Rect.unit (s := S3x128) ![i, 0] S1x128.size h).emb x)) = _
  rw [View.write_emb_of_mem (h := Finset.mem_univ _)]
  refine congrArg a3 (funext fun a => Fin.ext ?_)
  fin_cases a
  · show i + 1 * (x 0).val = i
    have : (x 0).val < 1 := (x 0).isLt
    omega
  · show 0 + 1 * (x 1).val = (x 1).val; omega

theorem sv_row (i : ℕ) (hi : i < 3) (h) :
    View.readAt (Elt F) (Memref.whole cc0_scratch12).view (Rect.unit (s := S3x128) ![i, 0] S1x128.size h).toLoadRect
      (View.write (Elt F) (Memref.whole cc0_scratch12).view s12 (kernelRun.sl.dma0_3 c a5) Finset.univ) = fun x : S1x128.Idx => a5 (ix2 ⟨i, hi⟩ (x 1)) := by
  funext x
  show View.write (Elt F) (Memref.whole cc0_scratch12).view s12 (kernelRun.sl.dma0_3 c a5) Finset.univ
    ((Memref.whole cc0_scratch12).view.emb ((Rect.unit (s := S3x128) ![i, 0] S1x128.size h).emb x)) = _
  rw [View.write_emb_of_mem (h := Finset.mem_univ _)]
  refine congrArg a5 (funext fun a => Fin.ext ?_)
  fin_cases a
  · show i + 1 * (x 0).val = i
    have : (x 0).val < 1 := (x 0).isLt
    omega
  · show 0 + 1 * (x 1).val = (x 1).val; omega

/-- Row `i` of the gain, of the scales. -/
def gRow (i : Fin 28) : Vec F S1x128 .f32 := fun x => a1 (ix2 i (x 1))
def skRow (i : Fin 3) : Vec F S1x128 .f32 := fun x => a3 (ix2 i (x 1))
def svRow (i : Fin 3) : Vec F S1x128 .f32 := fun x => a5 (ix2 i (x 1))

/-- The gain as one row. -/
def gainV : FVec F S1x3584 .f32 := k0_pay4 (gRow c a1 0) (gRow c a1 1) (gRow c a1 2) (gRow c a1 3) (gRow c a1 4) (gRow c a1 5) (gRow c a1 6) (gRow c a1 7) (gRow c a1 8) (gRow c a1 9) (gRow c a1 10) (gRow c a1 11) (gRow c a1 12) (gRow c a1 13) (gRow c a1 14) (gRow c a1 15) (gRow c a1 16) (gRow c a1 17) (gRow c a1 18) (gRow c a1 19) (gRow c a1 20) (gRow c a1 21) (gRow c a1 22) (gRow c a1 23) (gRow c a1 24) (gRow c a1 25) (gRow c a1 26) (gRow c a1 27)

/-- The scales of the weights' columns, K then V, as one row. -/
def wscaleV : FVec F S1x768 .f32 := k0_pay5 (skRow c a3 0) (skRow c a3 1) (skRow c a3 2) (svRow c a5 0) (svRow c a5 1) (svRow c a5 2)

theorem gain_eq : kernelRun.sl.v91 c a1 s10 = gainV c a1 := by
  unfold kernelRun.sl.v91 gainV k0_pay4
  rw [show kernelRun.sl.v63 c a1 s10 = gRow c a1 0 from gain_row c a1 s10 0 (by decide) _]
  rw [show kernelRun.sl.v64 c a1 s10 = gRow c a1 1 from gain_row c a1 s10 1 (by decide) _]
  rw [show kernelRun.sl.v65 c a1 s10 = gRow c a1 2 from gain_row c a1 s10 2 (by decide) _]
  rw [show kernelRun.sl.v66 c a1 s10 = gRow c a1 3 from gain_row c a1 s10 3 (by decide) _]
  rw [show kernelRun.sl.v67 c a1 s10 = gRow c a1 4 from gain_row c a1 s10 4 (by decide) _]
  rw [show kernelRun.sl.v68 c a1 s10 = gRow c a1 5 from gain_row c a1 s10 5 (by decide) _]
  rw [show kernelRun.sl.v69 c a1 s10 = gRow c a1 6 from gain_row c a1 s10 6 (by decide) _]
  rw [show kernelRun.sl.v70 c a1 s10 = gRow c a1 7 from gain_row c a1 s10 7 (by decide) _]
  rw [show kernelRun.sl.v71 c a1 s10 = gRow c a1 8 from gain_row c a1 s10 8 (by decide) _]
  rw [show kernelRun.sl.v72 c a1 s10 = gRow c a1 9 from gain_row c a1 s10 9 (by decide) _]
  rw [show kernelRun.sl.v73 c a1 s10 = gRow c a1 10 from gain_row c a1 s10 10 (by decide) _]
  rw [show kernelRun.sl.v74 c a1 s10 = gRow c a1 11 from gain_row c a1 s10 11 (by decide) _]
  rw [show kernelRun.sl.v75 c a1 s10 = gRow c a1 12 from gain_row c a1 s10 12 (by decide) _]
  rw [show kernelRun.sl.v76 c a1 s10 = gRow c a1 13 from gain_row c a1 s10 13 (by decide) _]
  rw [show kernelRun.sl.v77 c a1 s10 = gRow c a1 14 from gain_row c a1 s10 14 (by decide) _]
  rw [show kernelRun.sl.v78 c a1 s10 = gRow c a1 15 from gain_row c a1 s10 15 (by decide) _]
  rw [show kernelRun.sl.v79 c a1 s10 = gRow c a1 16 from gain_row c a1 s10 16 (by decide) _]
  rw [show kernelRun.sl.v80 c a1 s10 = gRow c a1 17 from gain_row c a1 s10 17 (by decide) _]
  rw [show kernelRun.sl.v81 c a1 s10 = gRow c a1 18 from gain_row c a1 s10 18 (by decide) _]
  rw [show kernelRun.sl.v82 c a1 s10 = gRow c a1 19 from gain_row c a1 s10 19 (by decide) _]
  rw [show kernelRun.sl.v83 c a1 s10 = gRow c a1 20 from gain_row c a1 s10 20 (by decide) _]
  rw [show kernelRun.sl.v84 c a1 s10 = gRow c a1 21 from gain_row c a1 s10 21 (by decide) _]
  rw [show kernelRun.sl.v85 c a1 s10 = gRow c a1 22 from gain_row c a1 s10 22 (by decide) _]
  rw [show kernelRun.sl.v86 c a1 s10 = gRow c a1 23 from gain_row c a1 s10 23 (by decide) _]
  rw [show kernelRun.sl.v87 c a1 s10 = gRow c a1 24 from gain_row c a1 s10 24 (by decide) _]
  rw [show kernelRun.sl.v88 c a1 s10 = gRow c a1 25 from gain_row c a1 s10 25 (by decide) _]
  rw [show kernelRun.sl.v89 c a1 s10 = gRow c a1 26 from gain_row c a1 s10 26 (by decide) _]
  rw [show kernelRun.sl.v90 c a1 s10 = gRow c a1 27 from gain_row c a1 s10 27 (by decide) _]

theorem wscale_eq : kernelRun.sl.v100 c a3 a5 s11 s12 = wscaleV c a3 a5 := by
  unfold kernelRun.sl.v100 kernelRun.sl.v95 kernelRun.sl.v99 wscaleV k0_pay5
  rw [show kernelRun.sl.v92 c a3 s11 = skRow c a3 0 from sk_row c a3 s11 0 (by decide) _, show kernelRun.sl.v96 c a5 s12 = svRow c a5 0 from sv_row c a5 s12 0 (by decide) _]
  rw [show kernelRun.sl.v93 c a3 s11 = skRow c a3 1 from sk_row c a3 s11 1 (by decide) _, show kernelRun.sl.v97 c a5 s12 = svRow c a5 1 from sv_row c a5 s12 1 (by decide) _]
  rw [show kernelRun.sl.v94 c a3 s11 = skRow c a3 2 from sk_row c a3 s11 2 (by decide) _, show kernelRun.sl.v98 c a5 s12 = svRow c a5 2 from sv_row c a5 s12 2 (by decide) _]

/-- The projections of block `lb` of batch row `b`. -/
def accV (b : Fin 2) (lb : Fin 4) : Vec F S256x768 .f32 := accOf (wscaleV c a3 a5) (hbOf (gainV c a1) (xBlk c a0 b lb)) (kernelRun.sl.v133 c a2 a4)

theorem hb_0 : kernelRun.sl.v132 c a0 a1 s0 s10 = hbOf (gainV c a1) (xBlk c a0 0 0) := by
  refine (View.readCov_full ..).trans ?_
  show hbOf (kernelRun.sl.v91 c a1 s10) (kernelRun.sl.v107 c a0 s0) = _
  rw [gain_eq, x_0]
theorem acc_0 : kernelRun.sl.v140 c a0 a1 a2 a3 a4 a5 s0 s10 s11 s12 = accV c a0 a1 a2 a3 a4 a5 0 0 := by
  refine (View.readCov_full ..).trans ?_
  show accOf (kernelRun.sl.v100 c a3 a5 s11 s12) (kernelRun.sl.v132 c a0 a1 s0 s10) (kernelRun.sl.v133 c a2 a4) = _
  rw [wscale_eq, hb_0]; rfl

theorem hb_1 : kernelRun.sl.v479 c a0 a1 s0 s10 = hbOf (gainV c a1) (xBlk c a0 0 1) := by
  refine (View.readCov_full ..).trans ?_
  show hbOf (kernelRun.sl.v91 c a1 s10) (kernelRun.sl.v454 c a0 s0) = _
  rw [gain_eq, x_1]
theorem acc_1 : kernelRun.sl.v487 c a0 a1 a2 a3 a4 a5 s0 s10 s11 s12 = accV c a0 a1 a2 a3 a4 a5 0 1 := by
  refine (View.readCov_full ..).trans ?_
  show accOf (kernelRun.sl.v100 c a3 a5 s11 s12) (kernelRun.sl.v479 c a0 a1 s0 s10) (kernelRun.sl.v133 c a2 a4) = _
  rw [wscale_eq, hb_1]; rfl

theorem hb_2 : kernelRun.sl.v826 c a0 a1 s0 s10 = hbOf (gainV c a1) (xBlk c a0 0 2) := by
  refine (View.readCov_full ..).trans ?_
  show hbOf (kernelRun.sl.v91 c a1 s10) (kernelRun.sl.v801 c a0 s0) = _
  rw [gain_eq, x_2]
theorem acc_2 : kernelRun.sl.v834 c a0 a1 a2 a3 a4 a5 s0 s10 s11 s12 = accV c a0 a1 a2 a3 a4 a5 0 2 := by
  refine (View.readCov_full ..).trans ?_
  show accOf (kernelRun.sl.v100 c a3 a5 s11 s12) (kernelRun.sl.v826 c a0 a1 s0 s10) (kernelRun.sl.v133 c a2 a4) = _
  rw [wscale_eq, hb_2]; rfl

theorem hb_3 : kernelRun.sl.v1173 c a0 a1 s0 s10 = hbOf (gainV c a1) (xBlk c a0 0 3) := by
  refine (View.readCov_full ..).trans ?_
  show hbOf (kernelRun.sl.v91 c a1 s10) (kernelRun.sl.v1148 c a0 s0) = _
  rw [gain_eq, x_3]
theorem acc_3 : kernelRun.sl.v1181 c a0 a1 a2 a3 a4 a5 s0 s10 s11 s12 = accV c a0 a1 a2 a3 a4 a5 0 3 := by
  refine (View.readCov_full ..).trans ?_
  show accOf (kernelRun.sl.v100 c a3 a5 s11 s12) (kernelRun.sl.v1173 c a0 a1 s0 s10) (kernelRun.sl.v133 c a2 a4) = _
  rw [wscale_eq, hb_3]; rfl

theorem hb_4 : kernelRun.sl.v1520 c a0 a1 s0 s10 = hbOf (gainV c a1) (xBlk c a0 1 0) := by
  refine (View.readCov_full ..).trans ?_
  show hbOf (kernelRun.sl.v91 c a1 s10) (kernelRun.sl.v1495 c a0 s0) = _
  rw [gain_eq, x_4]
theorem acc_4 : kernelRun.sl.v1528 c a0 a1 a2 a3 a4 a5 s0 s10 s11 s12 = accV c a0 a1 a2 a3 a4 a5 1 0 := by
  refine (View.readCov_full ..).trans ?_
  show accOf (kernelRun.sl.v100 c a3 a5 s11 s12) (kernelRun.sl.v1520 c a0 a1 s0 s10) (kernelRun.sl.v133 c a2 a4) = _
  rw [wscale_eq, hb_4]; rfl

theorem hb_5 : kernelRun.sl.v1861 c a0 a1 s0 s10 = hbOf (gainV c a1) (xBlk c a0 1 1) := by
  refine (View.readCov_full ..).trans ?_
  show hbOf (kernelRun.sl.v91 c a1 s10) (kernelRun.sl.v1842 c a0 s0) = _
  rw [gain_eq, x_5]
theorem acc_5 : kernelRun.sl.v1869 c a0 a1 a2 a3 a4 a5 s0 s10 s11 s12 = accV c a0 a1 a2 a3 a4 a5 1 1 := by
  refine (View.readCov_full ..).trans ?_
  show accOf (kernelRun.sl.v100 c a3 a5 s11 s12) (kernelRun.sl.v1861 c a0 a1 s0 s10) (kernelRun.sl.v133 c a2 a4) = _
  rw [wscale_eq, hb_5]; rfl

theorem hb_6 : kernelRun.sl.v2202 c a0 a1 s0 s10 = hbOf (gainV c a1) (xBlk c a0 1 2) := by
  refine (View.readCov_full ..).trans ?_
  show hbOf (kernelRun.sl.v91 c a1 s10) (kernelRun.sl.v2183 c a0 s0) = _
  rw [gain_eq, x_6]
theorem acc_6 : kernelRun.sl.v2210 c a0 a1 a2 a3 a4 a5 s0 s10 s11 s12 = accV c a0 a1 a2 a3 a4 a5 1 2 := by
  refine (View.readCov_full ..).trans ?_
  show accOf (kernelRun.sl.v100 c a3 a5 s11 s12) (kernelRun.sl.v2202 c a0 a1 s0 s10) (kernelRun.sl.v133 c a2 a4) = _
  rw [wscale_eq, hb_6]; rfl

theorem hb_7 : kernelRun.sl.v2543 c a0 a1 s0 s10 = hbOf (gainV c a1) (xBlk c a0 1 3) := by
  refine (View.readCov_full ..).trans ?_
  show hbOf (kernelRun.sl.v91 c a1 s10) (kernelRun.sl.v2524 c a0 s0) = _
  rw [gain_eq, x_7]
theorem acc_7 : kernelRun.sl.v2551 c a0 a1 a2 a3 a4 a5 s0 s10 s11 s12 = accV c a0 a1 a2 a3 a4 a5 1 3 := by
  refine (View.readCov_full ..).trans ?_
  show accOf (kernelRun.sl.v100 c a3 a5 s11 s12) (kernelRun.sl.v2543 c a0 a1 s0 s10) (kernelRun.sl.v133 c a2 a4) = _
  rw [wscale_eq, hb_7]; rfl

end Cert.KernelIdeal.Hand

end
-- ==== Proof.KernelIdealPieces.lean ====
module

public import proofs.«01_k».proof.Proof.KernelIdealLoads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The stores, as one list -/

variable (c : Dev nD)
  (a0 : HbBuf (F := F) c (Memref.whole main_arg0)) (a1 : HbBuf (F := F) c (Memref.whole main_v0)) (a2 : HbBuf (F := F) c (Memref.whole main_arg2))
  (a3 : HbBuf (F := F) c (Memref.whole main_v1)) (a4 : HbBuf (F := F) c (Memref.whole main_arg4)) (a5 : HbBuf (F := F) c (Memref.whole main_v2))
  (s0 : HbBuf (F := F) c (Memref.whole cc0_scratch0)) (s10 : HbBuf (F := F) c (Memref.whole cc0_scratch10))
  (s11 : HbBuf (F := F) c (Memref.whole cc0_scratch11)) (s12 : HbBuf (F := F) c (Memref.whole cc0_scratch12))

/-- The projections of a block, as the run names them. -/
def accRaw : Fin 2 → Fin 4 → Vec F S256x768 .f32 :=
  ![![kernelRun.sl.v140 c a0 a1 a2 a3 a4 a5 s0 s10 s11 s12, kernelRun.sl.v487 c a0 a1 a2 a3 a4 a5 s0 s10 s11 s12, kernelRun.sl.v834 c a0 a1 a2 a3 a4 a5 s0 s10 s11 s12, kernelRun.sl.v1181 c a0 a1 a2 a3 a4 a5 s0 s10 s11 s12],
    ![kernelRun.sl.v1528 c a0 a1 a2 a3 a4 a5 s0 s10 s11 s12, kernelRun.sl.v1869 c a0 a1 a2 a3 a4 a5 s0 s10 s11 s12, kernelRun.sl.v2210 c a0 a1 a2 a3 a4 a5 s0 s10 s11 s12, kernelRun.sl.v2551 c a0 a1 a2 a3 a4 a5 s0 s10 s11 s12]]

theorem accRaw_eq (b : Fin 2) (lb : Fin 4) : accRaw c a0 a1 a2 a3 a4 a5 s0 s10 s11 s12 b lb = accV c a0 a1 a2 a3 a4 a5 b lb := by
  have h : accRaw c a0 a1 a2 a3 a4 a5 s0 s10 s11 s12 = ![![accV c a0 a1 a2 a3 a4 a5 0 0, accV c a0 a1 a2 a3 a4 a5 0 1, accV c a0 a1 a2 a3 a4 a5 0 2, accV c a0 a1 a2 a3 a4 a5 0 3], ![accV c a0 a1 a2 a3 a4 a5 1 0, accV c a0 a1 a2 a3 a4 a5 1 1, accV c a0 a1 a2 a3 a4 a5 1 2, accV c a0 a1 a2 a3 a4 a5 1 3]] := by
    unfold accRaw
    rw [acc_0, acc_1, acc_2, acc_3, acc_4, acc_5, acc_6, acc_7]
  rw [h]
  match b, lb with
  | 0, 0 => rfl | 0, 1 => rfl | 0, 2 => rfl | 0, 3 => rfl
  | 1, 0 => rfl | 1, 1 => rfl | 1, 2 => rfl | 1, 3 => rfl

/-- The cosines and the sines of a block's 256 positions, as the run names them. -/
def cosRaw : Fin 4 → Vec F S48x256 .f32 := ![kernelRun.sl.v142, kernelRun.sl.v489, kernelRun.sl.v836, kernelRun.sl.v1183]
def sinRaw : Fin 4 → Vec F S48x256 .f32 := ![kernelRun.sl.v143, kernelRun.sl.v490, kernelRun.sl.v837, kernelRun.sl.v1184]

/-- Columns `256 lb …` of a table of 1024 positions. -/
def tabAt (T : FVec F S48x1024 .f32) (lb : Fin 4) : Vec F S48x256 .f32 := fun x =>
  T (ix2 (x 0) ⟨256 * lb.val + (x 1).val, by have h1 : (x 1).val < 256 := (x 1).isLt; have := lb.isLt; omega⟩)

theorem tab_ld (T : FVec F S48x1024 .f32) (lb : Fin 4) (o : ℕ) (ho : o = 256 * lb.val) (h) :
    (View.ld T (Rect.unit (s := S48x1024) ![0, o] S48x256.size h) : Vec F S48x256 .f32) = tabAt T lb := by
  subst ho
  refine funext fun x => congrArg T (funext fun a => Fin.ext ?_)
  fin_cases a
  · show 0 + 1 * (x 0).val = (x 0).val; omega
  · show 256 * lb.val + 1 * (x 1).val = 256 * lb.val + (x 1).val; omega

theorem cos_ld (r : Rect S48x1024) : (Memref.whole cc0_scratch6).view.readCov (kernelRun.sl.S6_1 (F := F)) r.toLoadRect = View.ld (k0_pay2 (F := F)) r := by
  unfold kernelRun.sl.S6_1
  generalize k0_pay2 (F := F) = T
  apply View.readCov_fill; decide
theorem cosRaw_eq (lb : Fin 4) : cosRaw (F := F) lb = tabAt k0_pay2 lb := by
  have h : cosRaw (F := F) = ![tabAt k0_pay2 0, tabAt k0_pay2 1, tabAt k0_pay2 2, tabAt k0_pay2 3] := by
    unfold cosRaw
    rw [show kernelRun.sl.v142 (F := F) = tabAt k0_pay2 0 from (cos_ld _).trans (tab_ld k0_pay2 0 0 rfl _)]
    rw [show kernelRun.sl.v489 (F := F) = tabAt k0_pay2 1 from (cos_ld _).trans (tab_ld k0_pay2 1 256 rfl _)]
    rw [show kernelRun.sl.v836 (F := F) = tabAt k0_pay2 2 from (cos_ld _).trans (tab_ld k0_pay2 2 512 rfl _)]
    rw [show kernelRun.sl.v1183 (F := F) = tabAt k0_pay2 3 from (cos_ld _).trans (tab_ld k0_pay2 3 768 rfl _)]
  rw [h]
  match lb with
  | 0 => rfl | 1 => rfl | 2 => rfl | 3 => rfl

theorem sin_ld (r : Rect S48x1024) : (Memref.whole cc0_scratch7).view.readCov (kernelRun.sl.S7_1 (F := F)) r.toLoadRect = View.ld (k0_pay3 (F := F)) r := by
  unfold kernelRun.sl.S7_1
  generalize k0_pay3 (F := F) = T
  apply View.readCov_fill; decide
theorem sinRaw_eq (lb : Fin 4) : sinRaw (F := F) lb = tabAt k0_pay3 lb := by
  have h : sinRaw (F := F) = ![tabAt k0_pay3 0, tabAt k0_pay3 1, tabAt k0_pay3 2, tabAt k0_pay3 3] := by
    unfold sinRaw
    rw [show kernelRun.sl.v143 (F := F) = tabAt k0_pay3 0 from (sin_ld _).trans (tab_ld k0_pay3 0 0 rfl _)]
    rw [show kernelRun.sl.v490 (F := F) = tabAt k0_pay3 1 from (sin_ld _).trans (tab_ld k0_pay3 1 256 rfl _)]
    rw [show kernelRun.sl.v837 (F := F) = tabAt k0_pay3 2 from (sin_ld _).trans (tab_ld k0_pay3 2 512 rfl _)]
    rw [show kernelRun.sl.v1184 (F := F) = tabAt k0_pay3 3 from (sin_ld _).trans (tab_ld k0_pay3 3 768 rfl _)]
  rw [h]
  match lb with
  | 0 => rfl | 1 => rfl | 2 => rfl | 3 => rfl

/-- Batch row, block and head of the 32 stores into one buffer, the last store first. -/
def order : List (Fin 2 × Fin 4 × Fin 4) :=
  [1, 0].flatMap fun b : Fin 2 => [3, 2, 1, 0].flatMap fun lb : Fin 4 => [3, 2, 1, 0].map fun h : Fin 4 => (b, lb, h)

theorem mem_order (b : Fin 2) (lb h : Fin 4) : (b, lb, h) ∈ order := by revert b lb h; decide

theorem inb_codes (b : Fin 2) (lb h : Fin 4) : ∀ a, (![b.val, 96 * h.val, 256 * lb.val] : Fin 3 → ℕ) a + S1x96x256.size a ≤ S2x384x1024.size a := by
  revert b lb h; decide
theorem inb_scales (b : Fin 2) (lb h : Fin 4) : ∀ a, (![b.val, h.val, 256 * lb.val] : Fin 3 → ℕ) a + S1x1x256.size a ≤ S2x4x1024.size a := by
  revert b lb h; decide

/-- Where a store of codes goes; where a store of scales goes. -/
abbrev rCodes (b : Fin 2) (lb h : Fin 4) : Rect S2x384x1024 := Rect.unit ![b.val, 96 * h.val, 256 * lb.val] S1x96x256.size (inb_codes b lb h)
abbrev rScales (b : Fin 2) (lb h : Fin 4) : Rect S2x4x1024 := Rect.unit ![b.val, h.val, 256 * lb.val] S1x1x256.size (inb_scales b lb h)

-- The loaded arrays stay as they are named while the stores are compared.
attribute [local irreducible] kernelRun.sl.v140 kernelRun.sl.v487 kernelRun.sl.v834 kernelRun.sl.v1181 kernelRun.sl.v1528 kernelRun.sl.v1869
  kernelRun.sl.v2210 kernelRun.sl.v2551 kernelRun.sl.v142 kernelRun.sl.v489 kernelRun.sl.v836 kernelRun.sl.v1183 kernelRun.sl.v143 kernelRun.sl.v490
  kernelRun.sl.v837 kernelRun.sl.v1184

set_option maxHeartbeats 2000000 in
theorem kc_list : kernelRun.sl.S2_32 c a0 a1 a2 a3 a4 a5 s0 s10 s11 s12 = order.map (fun p => (⟨rCodes p.1 p.2.1 p.2.2, codesOf (kBlk p.2.2 (accRaw c a0 a1 a2 a3 a4 a5 s0 s10 s11 s12 p.1 p.2.1) (cosRaw p.2.1) (sinRaw p.2.1))⟩ : View.Piece (Elt F) S2x384x1024 .fp8e4m3)) := by
  rfl

set_option maxHeartbeats 2000000 in
theorem vc_list : kernelRun.sl.S3_32 c a0 a1 a2 a3 a4 a5 s0 s10 s11 s12 = order.map (fun p => (⟨rCodes p.1 p.2.1 p.2.2, codesOf (vBlk p.2.2 (accRaw c a0 a1 a2 a3 a4 a5 s0 s10 s11 s12 p.1 p.2.1))⟩ : View.Piece (Elt F) S2x384x1024 .fp8e4m3)) := by
  rfl

set_option maxHeartbeats 2000000 in
theorem ks_list : kernelRun.sl.S4_32 c a0 a1 a2 a3 a4 a5 s0 s10 s11 s12 = order.map (fun p => (⟨rScales p.1 p.2.1 p.2.2, scaleOf (kBlk p.2.2 (accRaw c a0 a1 a2 a3 a4 a5 s0 s10 s11 s12 p.1 p.2.1) (cosRaw p.2.1) (sinRaw p.2.1))⟩ : View.Piece (Elt F) S2x4x1024 .f32)) := by
  rfl

set_option maxHeartbeats 2000000 in
theorem vs_list : kernelRun.sl.S5_32 c a0 a1 a2 a3 a4 a5 s0 s10 s11 s12 = order.map (fun p => (⟨rScales p.1 p.2.1 p.2.2, scaleOf (vBlk p.2.2 (accRaw c a0 a1 a2 a3 a4 a5 s0 s10 s11 s12 p.1 p.2.1))⟩ : View.Piece (Elt F) S2x4x1024 .f32)) := by
  rfl

end Cert.KernelIdeal.Hand

end
-- ==== Proof.KernelIdealResults.lean ====
module

public import proofs.«01_k».proof.Proof.KernelIdealPieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Two buffers assembled from 32 blocks -/

/-- The blocks `f b lb h` of 96 rows (head `h`) and 256 columns (block `lb`), side by side. -/
def asmCodes {α : Type} (f : Fin 2 × Fin 4 × Fin 4 → S1x96x256.Idx → α) : S2x384x1024.Idx → α := fun y =>
  f (y 0, ⟨(y 2).val / 256, by have : (y 2).val < 1024 := (y 2).isLt; omega⟩, ⟨(y 1).val / 96, by have : (y 1).val < 384 := (y 1).isLt; omega⟩)
    (ix3 0 ⟨(y 1).val % 96, by omega⟩ ⟨(y 2).val % 256, by omega⟩)

/-- The rows `f b lb h` of 256 columns, side by side. -/
def asmScales {α : Type} (f : Fin 2 × Fin 4 × Fin 4 → S1x1x256.Idx → α) : S2x4x1024.Idx → α := fun y =>
  f (y 0, ⟨(y 2).val / 256, by have : (y 2).val < 1024 := (y 2).isLt; omega⟩, y 1) (ix3 0 0 ⟨(y 2).val % 256, by omega⟩)

theorem asmCodes_emb {α : Type} (f : Fin 2 × Fin 4 × Fin 4 → S1x96x256.Idx → α) (b : Fin 2) (lb h : Fin 4) (x : S1x96x256.Idx) :
    asmCodes f ((rCodes b lb h).emb x) = f (b, lb, h) x := by
  have key : ∀ b' lb' h' x', b' = b → lb' = lb → h' = h → x' = x → f (b', lb', h') x' = f (b, lb, h) x := by rintro _ _ _ _ rfl rfl rfl rfl; rfl
  have h0 : (x 0).val < 1 := (x 0).isLt
  have h1 : (x 1).val < 96 := (x 1).isLt
  have h2 : (x 2).val < 256 := (x 2).isLt
  refine key _ _ _ _ (Fin.ext ?_) (Fin.ext ?_) (Fin.ext ?_) (funext fun a => Fin.ext ?_)
  · show b.val + 1 * (x 0).val = b.val; omega
  · show (256 * lb.val + 1 * (x 2).val) / 256 = lb.val; omega
  · show (96 * h.val + 1 * (x 1).val) / 96 = h.val; omega
  · fin_cases a
    · show 0 = (x 0).val; omega
    · show (96 * h.val + 1 * (x 1).val) % 96 = (x 1).val; omega
    · show (256 * lb.val + 1 * (x 2).val) % 256 = (x 2).val; omega

theorem asmScales_emb {α : Type} (f : Fin 2 × Fin 4 × Fin 4 → S1x1x256.Idx → α) (b : Fin 2) (lb h : Fin 4) (x : S1x1x256.Idx) :
    asmScales f ((rScales b lb h).emb x) = f (b, lb, h) x := by
  have key : ∀ b' lb' h' x', b' = b → lb' = lb → h' = h → x' = x → f (b', lb', h') x' = f (b, lb, h) x := by rintro _ _ _ _ rfl rfl rfl rfl; rfl
  have h0 : (x 0).val < 1 := (x 0).isLt
  have h1 : (x 1).val < 1 := (x 1).isLt
  have h2 : (x 2).val < 256 := (x 2).isLt
  refine key _ _ _ _ (Fin.ext ?_) (Fin.ext ?_) (Fin.ext ?_) (funext fun a => Fin.ext ?_)
  · show b.val + 1 * (x 0).val = b.val; omega
  · show (256 * lb.val + 1 * (x 2).val) / 256 = lb.val; omega
  · show h.val + 1 * (x 1).val = h.val; omega
  · fin_cases a
    · show 0 = (x 0).val; omega
    · show 0 = (x 1).val; omega
    · show (256 * lb.val + 1 * (x 2).val) % 256 = (x 2).val; omega

/-- Every element lies in one of the 32 blocks. -/
theorem codes_mem (y : S2x384x1024.Idx) : ∃ b lb h, y ∈ (rCodes b lb h).set := by
  have h1 : (y 1).val < 384 := (y 1).isLt
  have h2 : (y 2).val < 1024 := (y 2).isLt
  refine ⟨y 0, ⟨(y 2).val / 256, by omega⟩, ⟨(y 1).val / 96, by omega⟩, ?_⟩
  refine Rect.mem_set_unit.mpr fun a => ?_
  fin_cases a
  · show (y 0).val ≤ (y 0).val ∧ (y 0).val < (y 0).val + 1; omega
  · show 96 * ((y 1).val / 96) ≤ (y 1).val ∧ (y 1).val < 96 * ((y 1).val / 96) + 96; omega
  · show 256 * ((y 2).val / 256) ≤ (y 2).val ∧ (y 2).val < 256 * ((y 2).val / 256) + 256; omega

theorem scales_mem (y : S2x4x1024.Idx) : ∃ b lb h, y ∈ (rScales b lb h).set := by
  have h2 : (y 2).val < 1024 := (y 2).isLt
  refine ⟨y 0, ⟨(y 2).val / 256, by omega⟩, y 1, ?_⟩
  refine Rect.mem_set_unit.mpr fun a => ?_
  fin_cases a
  · show (y 0).val ≤ (y 0).val ∧ (y 0).val < (y 0).val + 1; omega
  · show (y 1).val ≤ (y 1).val ∧ (y 1).val < (y 1).val + 1; omega
  · show 256 * ((y 2).val / 256) ≤ (y 2).val ∧ (y 2).val < 256 * ((y 2).val / 256) + 256; omega

/-- What 32 stores leave in a buffer of codes, over any contents. -/
theorem codes_read {κ : Kind} {sp : Space} (v : View sig κ sp S2x384x1024 .fp8e4m3) (g : v.ty.Contents (Elt F)) (f : Fin 2 × Fin 4 × Fin 4 → FVec F S1x96x256 .fp8e4m3) :
    v.read (Elt F) (v.writes (Elt F) g (order.map fun p => (⟨rCodes p.1 p.2.1 p.2.2, f p⟩ : View.Piece (Elt F) S2x384x1024 .fp8e4m3))) = asmCodes f := by
  have hc : ∀ y, ∃ p ∈ order.map fun p => (⟨rCodes p.1 p.2.1 p.2.2, f p⟩ : View.Piece (Elt F) S2x384x1024 .fp8e4m3), y ∈ p.1.set := by
    intro y
    obtain ⟨b, lb, h, hy⟩ := codes_mem y
    exact ⟨_, List.mem_map.mpr ⟨(b, lb, h), mem_order b lb h, rfl⟩, hy⟩
  rw [View.read_writes_eq_canon v g _ hc]
  funext y
  refine (congrArg (fun L => View.canon L y) (List.append_nil _).symm).trans (View.canon_append_of_pieces (asmCodes f) [] _ ?_ y (hc y))
  intro p hp x
  obtain ⟨q, -, rfl⟩ := List.mem_map.mp hp
  exact (asmCodes_emb f q.1 q.2.1 q.2.2 x).symm

theorem scales_read {κ : Kind} {sp : Space} (v : View sig κ sp S2x4x1024 .f32) (g : v.ty.Contents (Elt F)) (f : Fin 2 × Fin 4 × Fin 4 → FVec F S1x1x256 .f32) :
    v.read (Elt F) (v.writes (Elt F) g (order.map fun p => (⟨rScales p.1 p.2.1 p.2.2, f p⟩ : View.Piece (Elt F) S2x4x1024 .f32))) = asmScales f := by
  have hc : ∀ y, ∃ p ∈ order.map fun p => (⟨rScales p.1 p.2.1 p.2.2, f p⟩ : View.Piece (Elt F) S2x4x1024 .f32), y ∈ p.1.set := by
    intro y
    obtain ⟨b, lb, h, hy⟩ := scales_mem y
    exact ⟨_, List.mem_map.mpr ⟨(b, lb, h), mem_order b lb h, rfl⟩, hy⟩
  rw [View.read_writes_eq_canon v g _ hc]
  funext y
  refine (congrArg (fun L => View.canon L y) (List.append_nil _).symm).trans (View.canon_append_of_pieces (asmScales f) [] _ ?_ y (hc y))
  intro p hp x
  obtain ⟨q, -, rfl⟩ := List.mem_map.mp hp
  exact (asmScales_emb f q.1 q.2.1 q.2.2 x).symm

/-! ## The four results -/

variable (c : Dev nD)
  (a0 : HbBuf (F := F) c (Memref.whole main_arg0)) (a1 : HbBuf (F := F) c (Memref.whole main_v0)) (a2 : HbBuf (F := F) c (Memref.whole main_arg2))
  (a3 : HbBuf (F := F) c (Memref.whole main_v1)) (a4 : HbBuf (F := F) c (Memref.whole main_arg4)) (a5 : HbBuf (F := F) c (Memref.whole main_v2))
  (s0 : HbBuf (F := F) c (Memref.whole cc0_scratch0)) (s10 : HbBuf (F := F) c (Memref.whole cc0_scratch10))
  (s11 : HbBuf (F := F) c (Memref.whole cc0_scratch11)) (s12 : HbBuf (F := F) c (Memref.whole cc0_scratch12))

/-- The keys and the values of a block and head, before they are quantised. -/
def kOf (p : Fin 2 × Fin 4 × Fin 4) : FVec F S96x256 .f32 := kBlk p.2.2 (accV c a0 a1 a2 a3 a4 a5 p.1 p.2.1) (tabAt k0_pay2 p.2.1) (tabAt k0_pay3 p.2.1)
def vOf (p : Fin 2 × Fin 4 × Fin 4) : FVec F S96x256 .f32 := vBlk p.2.2 (accV c a0 a1 a2 a3 a4 a5 p.1 p.2.1)

/-- The key codes, their scales, the value codes, their scales: functions of the arguments alone. -/
def KC : HbBuf (F := F) c (Memref.whole main_v3_0) := asmCodes fun p => codesOf (kOf c a0 a1 a2 a3 a4 a5 p)
def KS : HbBuf (F := F) c (Memref.whole main_v3_1) := asmScales fun p => scaleOf (kOf c a0 a1 a2 a3 a4 a5 p)
def VC : HbBuf (F := F) c (Memref.whole main_v3_2) := asmCodes fun p => codesOf (vOf c a0 a1 a2 a3 a4 a5 p)
def VS : HbBuf (F := F) c (Memref.whole main_v3_3) := asmScales fun p => scaleOf (vOf c a0 a1 a2 a3 a4 a5 p)

variable (t : Fin cfg0.N)
  (s2 : HbBuf (F := F) c (Memref.whole cc0_scratch2)) (s3 : HbBuf (F := F) c (Memref.whole cc0_scratch3))
  (s4 : HbBuf (F := F) c (Memref.whole cc0_scratch4)) (s5 : HbBuf (F := F) c (Memref.whole cc0_scratch5))
  (o0 : HbBuf (F := F) c (Memref.whole main_v3_0)) (o1 : HbBuf (F := F) c (Memref.whole main_v3_1))
  (o2 : HbBuf (F := F) c (Memref.whole main_v3_2)) (o3 : HbBuf (F := F) c (Memref.whole main_v3_3))

theorem result_kc : (kernelRun c t a0 a1 a2 a3 a4 a5).1.1 s0 s2 s3 s4 s5 s10 s11 s12 o0 o1 o2 o3 = KC c a0 a1 a2 a3 a4 a5 := by
  funext y
  show View.write (Elt F) (Memref.whole main_v3_0).view o0 (ReadAs.same.apply (View.read (Elt F) (Memref.whole cc0_scratch2).view
    ((Memref.whole cc0_scratch2).view.writes (Elt F) s2 (kernelRun.sl.S2_32 c a0 a1 a2 a3 a4 a5 s0 s10 s11 s12)))) Finset.univ ((Memref.whole main_v3_0).view.emb y) = _
  rw [View.write_emb_of_mem (h := Finset.mem_univ _), kc_list, codes_read]
  simp only [accRaw_eq, cosRaw_eq, sinRaw_eq]
  rfl

theorem result_ks : (kernelRun c t a0 a1 a2 a3 a4 a5).1.2.1 s0 s2 s3 s4 s5 s10 s11 s12 o0 o1 o2 o3 = KS c a0 a1 a2 a3 a4 a5 := by
  funext y
  show View.write (Elt F) (Memref.whole main_v3_1).view o1 (ReadAs.same.apply (View.read (Elt F) (Memref.whole cc0_scratch4).view
    ((Memref.whole cc0_scratch4).view.writes (Elt F) s4 (kernelRun.sl.S4_32 c a0 a1 a2 a3 a4 a5 s0 s10 s11 s12)))) Finset.univ ((Memref.whole main_v3_1).view.emb y) = _
  rw [View.write_emb_of_mem (h := Finset.mem_univ _), ks_list, scales_read]
  simp only [accRaw_eq, cosRaw_eq, sinRaw_eq]
  rfl

theorem result_vc : (kernelRun c t a0 a1 a2 a3 a4 a5).1.2.2.1 s0 s2 s3 s4 s5 s10 s11 s12 o0 o1 o2 o3 = VC c a0 a1 a2 a3 a4 a5 := by
  funext y
  show View.write (Elt F) (Memref.whole main_v3_2).view o2 (ReadAs.same.apply (View.read (Elt F) (Memref.whole cc0_scratch3).view
    ((Memref.whole cc0_scratch3).view.writes (Elt F) s3 (kernelRun.sl.S3_32 c a0 a1 a2 a3 a4 a5 s0 s10 s11 s12)))) Finset.univ ((Memref.whole main_v3_2).view.emb y) = _
  rw [View.write_emb_of_mem (h := Finset.mem_univ _), vc_list, codes_read]
  simp only [accRaw_eq, cosRaw_eq, sinRaw_eq]
  rfl

theorem result_vs : (kernelRun c t a0 a1 a2 a3 a4 a5).1.2.2.2 s0 s2 s3 s4 s5 s10 s11 s12 o0 o1 o2 o3 = VS c a0 a1 a2 a3 a4 a5 := by
  funext y
  show View.write (Elt F) (Memref.whole main_v3_3).view o3 (ReadAs.same.apply (View.read (Elt F) (Memref.whole cc0_scratch5).view
    ((Memref.whole cc0_scratch5).view.writes (Elt F) s5 (kernelRun.sl.S5_32 c a0 a1 a2 a3 a4 a5 s0 s10 s11 s12)))) Finset.univ ((Memref.whole main_v3_3).view.emb y) = _
  rw [View.write_emb_of_mem (h := Finset.mem_univ _), vs_list, scales_read]
  simp only [accRaw_eq, cosRaw_eq, sinRaw_eq]
  rfl

end Cert.KernelIdeal.Hand

end
-- ==== Proof.KernelIdealFrame.lean ====
/-
  The launch of the idealized kernel, with the contents of its results: @main terminates without fault, its six argument arrays
  end unchanged, every semaphore counter ends at zero, and the four returned arrays are the host's re-layout of `KC`, `KS`,
  `VC` and `VS`, functions of the arguments alone.
-/
module

public import proofs.«01_k».proof.Proof.KernelIdealResults
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds -/

abbrev osem0 : Fin 12 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 12 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10, 11] (by decide) (by decide)]; rfl

/-- The operands the body reads whole. -/
def H0 : Finset (Ref sig .tc) := {main_arg0, main_v0, main_arg2, main_v1, main_arg4, main_v2}
theorem H0_sub : H0 ⊆ Pipeline.restRefs sig cfg0.spec := by decide
theorem hbmPts0_eq (c : Dev nD) (V : (b : Ref sig .tc) → Buf (Elt F) ((c : Thread nD τ).loc b)) :
    (bigSep H0 fun b => ((c.tc : Thread nD τ).loc b) ↦{fullShare} V b : sProp 𝕄)
      = iprop(pt c (Memref.whole main_arg0) (V main_arg0) ∗ pt c (Memref.whole main_v0) (V main_v0) ∗ pt c (Memref.whole main_arg2) (V main_arg2) ∗ pt c (Memref.whole main_v1) (V main_v1) ∗ pt c (Memref.whole main_arg4) (V main_arg4) ∗ pt c (Memref.whole main_v2) (V main_v2)) := by
  rw [BI.bigSep_eq_bigSepL_of_eq [main_arg0, main_v0, main_arg2, main_v1, main_arg4, main_v2] (by decide) (by decide)]; rfl

/-- The results the body writes whole. -/
def R0 : Finset (Ref sig .tc) := {main_v3_0, main_v3_1, main_v3_2, main_v3_3}
theorem R0_sub : R0 ⊆ Pipeline.restRefs sig cfg0.spec \ H0 := by decide
theorem resPts0_eq (c : Dev nD) (V : (b : Ref sig .tc) → Buf (Elt F) ((c : Thread nD τ).loc b)) :
    (bigSep R0 fun b => ((c.tc : Thread nD τ).loc b) ↦{fullShare} V b : sProp 𝕄)
      = iprop(pt c (Memref.whole main_v3_0) (V main_v3_0) ∗ pt c (Memref.whole main_v3_1) (V main_v3_1) ∗ pt c (Memref.whole main_v3_2) (V main_v3_2) ∗ pt c (Memref.whole main_v3_3) (V main_v3_3)) := by
  rw [BI.bigSep_eq_bigSepL_of_eq [main_v3_0, main_v3_1, main_v3_2, main_v3_3] (by decide) (by decide)]; rfl
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem defs₀_row (t : Fin cfg0.N) :
    defs₀ (F := F) .tc cfg0.body (cfg0.bodyArgs t (cfg0.slots t)) = bodyAt0 t := by
  unfold defs₀; rw [Defs.onTc_tc]

/-- The call stages no window: its windows' resources are empty. -/
theorem bigSep_W0 (X : Fin cfg0.W → sProp 𝕄) : (bigSep Finset.univ X : sProp 𝕄) = iprop(emp) := by
  rw [show (Finset.univ : Finset (Fin cfg0.W)) = ∅ from rfl]; exact bigSep_empty

/-! ## The body, its obligation and the run -/

/-- What the call leaves: its results at their values, everything else as the call found it. -/
def G (c : Dev nD) : (b : Ref sig .tc) → Buf (Elt F) ((c.tc : Thread nD τ).loc b) :=
  Function.update (Function.update (Function.update (Function.update (fun b => V m c b) main_v3_0 (KC c (V m c main_arg0) (V m c main_v0) (V m c main_arg2) (V m c main_v1) (V m c main_arg4) (V m c main_v2))) main_v3_1 (KS c (V m c main_arg0) (V m c main_v0) (V m c main_arg2) (V m c main_v1) (V m c main_arg4) (V m c main_v2)))
    main_v3_2 (VC c (V m c main_arg0) (V m c main_v0) (V m c main_arg2) (V m c main_v1) (V m c main_arg4) (V m c main_v2))) main_v3_3 (VS c (V m c main_arg0) (V m c main_v0) (V m c main_arg2) (V m c main_v1) (V m c main_arg4) (V m c main_v2))

theorem G_0 (c : Dev nD) : G m c main_v3_0 = KC c (V m c main_arg0) (V m c main_v0) (V m c main_arg2) (V m c main_v1) (V m c main_arg4) (V m c main_v2) := by
  unfold G
  rw [Function.update_of_ne (by decide), Function.update_of_ne (by decide), Function.update_of_ne (by decide), Function.update_self]
theorem G_1 (c : Dev nD) : G m c main_v3_1 = KS c (V m c main_arg0) (V m c main_v0) (V m c main_arg2) (V m c main_v1) (V m c main_arg4) (V m c main_v2) := by
  unfold G
  rw [Function.update_of_ne (by decide), Function.update_of_ne (by decide), Function.update_self]
theorem G_2 (c : Dev nD) : G m c main_v3_2 = VC c (V m c main_arg0) (V m c main_v0) (V m c main_arg2) (V m c main_v1) (V m c main_arg4) (V m c main_v2) := by
  unfold G
  rw [Function.update_of_ne (by decide), Function.update_self]
theorem G_3 (c : Dev nD) : G m c main_v3_3 = VS c (V m c main_arg0) (V m c main_v0) (V m c main_arg2) (V m c main_v1) (V m c main_arg4) (V m c main_v2) := by
  unfold G
  rw [Function.update_self]

def dats (_ : Fin 1) (c : Dev nD) : Dat τ (Elt F) Unit ℕ (Pipeline.UD sig nD τ) ℕ cfg0 c where
  A w := V m c (Pipeline.arrRef cfg0.spec w)
  after w _ := w.elim0
  Φ t := Pipeline.ΦDRV osem0 cfg0.spec H0 R0 (V m) (if t.val = 0 then V m else G m) c
  q _ := fullShare
  owed _ := 0

theorem Φ_first (c : Dev nD) (t : Fin cfg0.N) : (dats m 0 c).Φ t.castSucc = Pipeline.ΦDRV osem0 cfg0.spec H0 R0 (V m) (V m) c := by
  have h : t.castSucc.val = 0 := by have : t.val < 1 := t.isLt; show t.val = 0; omega
  show Pipeline.ΦDRV osem0 cfg0.spec H0 R0 (V m) (if t.castSucc.val = 0 then V m else G m) c = _
  rw [if_pos h]
theorem Φ_last (c : Dev nD) (t : Fin cfg0.N) : (dats m 0 c).Φ t.succ = Pipeline.ΦDRV osem0 cfg0.spec H0 R0 (V m) (G m) c := by
  have h : ¬ t.succ.val = 0 := by show ¬ (t.val + 1 = 0); omega
  show Pipeline.ΦDRV osem0 cfg0.spec H0 R0 (V m) (if t.succ.val = 0 then V m else G m) c = _
  rw [if_neg h]
theorem Φ_zero (c : Dev nD) : (dats m 0 c).Φ 0 = Pipeline.ΦDRV osem0 cfg0.spec H0 R0 (V m) (V m) c := by
  show Pipeline.ΦDRV osem0 cfg0.spec H0 R0 (V m) (if (0 : Fin (cfg0.N + 1)).val = 0 then V m else G m) c = _
  exact congrArg (fun Y => Pipeline.ΦDRV osem0 cfg0.spec H0 R0 (V m) Y c) (if_pos rfl)
theorem Φ_end (c : Dev nD) : (dats m 0 c).Φ (Fin.last cfg0.N) = Pipeline.ΦDRV osem0 cfg0.spec H0 R0 (V m) (G m) c := by
  have h : ¬ (Fin.last cfg0.N).val = 0 := by show ¬ ((1 : ℕ) = 0); omega
  show Pipeline.ΦDRV osem0 cfg0.spec H0 R0 (V m) (if (Fin.last cfg0.N).val = 0 then V m else G m) c = _
  rw [if_neg h]

set_option maxHeartbeats 2000000 in
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  rw [Φ_first, Φ_last]
  unfold Pipeline.ΦDRV
  rw [scopedRest0_eq, ownSems00_eq, hbmPts0_eq, resPts0_eq, resPts0_eq, G_0, G_1, G_2, G_3]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩⟩, ⟨D0, D1, D2, D3, D4, D5, D6, D7, D8, D9, D10, D11⟩, ⟨A0, A1, A2, A3, A4, A5⟩, ⟨O0, O1, O2, O3⟩⟩, ⟨%W, -, HW⟩, He⟩
  iapply ((kernelRun c t (V m c main_arg0) (V m c main_v0) (V m c main_arg2) (V m c main_v1) (V m c main_arg4) (V m c main_v2)).2 (V m c main_v3_0) (V m c main_v3_1) (V m c main_v3_2) (V m c main_v3_3) s0 s1 s2 s3 s4 s5 s6 s7 s8 s9 s10 s11 s12 W _)
  isplitl [A0]; · iexact A0
  isplitl [A1]; · iexact A1
  isplitl [A2]; · iexact A2
  isplitl [A3]; · iexact A3
  isplitl [A4]; · iexact A4
  isplitl [A5]; · iexact A5
  isplitl [O0]; · iexact O0
  isplitl [O1]; · iexact O1
  isplitl [O2]; · iexact O2
  isplitl [O3]; · iexact O3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [HW]; · iexact HW
  rw [result_kc, result_ks, result_vc, result_vs]
  iintro ⟨A0, A1, A2, A3, A4, A5, O0, O1, O2, O3, S0, S1, S2, S3, S4, S5, S6, S7, S8, S9, S10, S11, S12, D0, D1, D2, D3, D4, D5, D6, D7, D8, D9, D10, D11, ⟨%W', HW'⟩⟩
  isplitl [S0 S1 S2 S3 S4 S5 S6 S7 S8 S9 S10 S11 S12 D0 D1 D2 D3 D4 D5 D6 D7 D8 D9 D10 D11 A0 A1 A2 A3 A4 A5 O0 O1 O2 O3]
  · isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iexact S12
    isplitl [D0 D1 D2 D3 D4 D5 D6 D7 D8 D9 D10 D11]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      iexact D11
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [O0]; · iexact O0
    isplitl [O1]; · iexact O1
    isplitl [O2]; · iexact O2
    iexact O3
  isplitl [HW']
  · iexists W'; isplitr; · ipureintro; exact fun _ _ => Or.inl trivial
    iexact HW'
  iexact He

theorem body_obligation (c : Dev nD) : BodyObligation (dats (F := F) m 0 c) (defs₀ (F := F)) Variants.none () Set.univ := fun t => by
  rw [bigSep_W0, bigSep_W0, defs₀_row]
  exact sound_body m c t

theorem run_main : θ_run defs (onTc (τ := τ) (main (F := F))) (s₀ m ρ) (fun r => (∀ c : Dev nD, ∀ b ∈ Pipeline.restRefs sig cfg0.spec,
    r.2.mem ((c.tc : Thread nD τ).loc b) = StableHlo.after ([hostOps1].flatten)
      (Pipeline.withArrays cfg0.spec c (Pipeline.withR (V0 m c) R0 c (G m c)) fun w => (dats m 0 c).arrAt w cfg0.N) (Proc.devRef .tc b)) ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) sfx_sub sfx_fresh sfx_keeps (G m) (hmain := hmainD m) (hA := fun _ w => w.elim0)
    (hin := fun c => .of_eq (Φ_zero m c).symm) (hout := fun c => .of_eq (Φ_end m c))
    (Q' := _) (hQ' := fun _ h => ⟨fun c => (h.1 c).2, h.2⟩)

/-- What the call leaves, as the lines after it find it. -/
def X (c : Dev nD) : Valuation τ sig (Elt F) :=
  Pipeline.withArrays cfg0.spec c (Pipeline.withR (V0 m c) R0 c (G m c)) fun w => (dats m 0 c).arrAt w cfg0.N

theorem X_res (c : Dev nD) (b : Ref sig .tc) (hb : b ∈ R0) : X m c (Proc.devRef .tc b) = G m c b :=
  (Pipeline.withArrays_of_ne _ c _ _ b fun w => w.elim0).trans (Pipeline.withR_of_mem _ _ _ _ b hb)
theorem X_keep (c : Dev nD) (b : Ref sig .tc) (hb : b ∉ R0) : X m c (Proc.devRef .tc b) = V m c b :=
  (Pipeline.withArrays_of_ne _ c _ _ b fun w => w.elim0).trans (Pipeline.withR_of_not_mem _ _ _ _ b hb)

/-- The lines after the call touch no argument. -/
theorem tail_keep (Y : Valuation τ sig (Elt F)) (b : Ref sig .tc) (hb : b ∉ [main_v4, main_v5, main_v6, main_v7, main_v8, main_v9]) :
    StableHlo.after ([hostOps1].flatten) Y (Proc.devRef .tc b) = Y (Proc.devRef .tc b) :=
  StableHlo.after_of_writes_sub (W := [main_v4, main_v5, main_v6, main_v7, main_v8, main_v9]) _ _ (by
    simp only [hostOps1, List.flatten_cons, List.flatten_nil, List.append_nil, List.cons_append, List.nil_append, List.Forall, StableHlo.unary_writes, StableHlo.reshape_writes]
    repeat' apply And.intro
    all_goals decide) hb

/-- The lines after the call, read at each returned array. -/
theorem tail_v5 (Y : Valuation τ sig (Elt F)) : StableHlo.after ([hostOps1].flatten) Y (Proc.devRef .tc main_v5)
    = transpose S2x1024x4x96 [0, 3, 1, 2] (shapeCast S2x4x96x1024 (Y (Proc.devRef .tc main_v3_0)) shapeCasts_S2x384x1024_S2x4x96x1024)
        transposes_S2x4x96x1024_S2x1024x4x96_0_3_1_2 := by
  simp only [hostOps1, List.flatten_cons, List.flatten_nil, List.append_nil, List.cons_append, List.nil_append]
  after_results_simp
  rfl
theorem tail_v7 (Y : Valuation τ sig (Elt F)) : StableHlo.after ([hostOps1].flatten) Y (Proc.devRef .tc main_v7)
    = transpose S2x1024x4x96 [0, 3, 1, 2] (shapeCast S2x4x96x1024 (Y (Proc.devRef .tc main_v3_2)) shapeCasts_S2x384x1024_S2x4x96x1024)
        transposes_S2x4x96x1024_S2x1024x4x96_0_3_1_2 := by
  simp only [hostOps1, List.flatten_cons, List.flatten_nil, List.append_nil, List.cons_append, List.nil_append]
  after_results_simp
  rfl
theorem tail_v8 (Y : Valuation τ sig (Elt F)) : StableHlo.after ([hostOps1].flatten) Y (Proc.devRef .tc main_v8)
    = transpose S2x1024x4 [0, 2, 1] (Y (Proc.devRef .tc main_v3_1)) transposes_S2x4x1024_S2x1024x4_0_2_1 := by
  simp only [hostOps1, List.flatten_cons, List.flatten_nil, List.append_nil, List.cons_append, List.nil_append]
  after_results_simp
theorem tail_v9 (Y : Valuation τ sig (Elt F)) : StableHlo.after ([hostOps1].flatten) Y (Proc.devRef .tc main_v9)
    = transpose S2x1024x4 [0, 2, 1] (Y (Proc.devRef .tc main_v3_3)) transposes_S2x4x1024_S2x1024x4_0_2_1 := by
  simp only [hostOps1, List.flatten_cons, List.flatten_nil, List.append_nil, List.cons_append, List.nil_append]
  after_results_simp

/-- The four returned arrays. -/
def rKC (c : Dev nD) : Vec F S2x1024x4x96 .fp8e4m3 :=
  transpose S2x1024x4x96 [0, 3, 1, 2] (shapeCast S2x4x96x1024 (KC c (V m c main_arg0) (V m c main_v0) (V m c main_arg2) (V m c main_v1) (V m c main_arg4) (V m c main_v2)) shapeCasts_S2x384x1024_S2x4x96x1024) transposes_S2x4x96x1024_S2x1024x4x96_0_3_1_2
def rVC (c : Dev nD) : Vec F S2x1024x4x96 .fp8e4m3 :=
  transpose S2x1024x4x96 [0, 3, 1, 2] (shapeCast S2x4x96x1024 (VC c (V m c main_arg0) (V m c main_v0) (V m c main_arg2) (V m c main_v1) (V m c main_arg4) (V m c main_v2)) shapeCasts_S2x384x1024_S2x4x96x1024) transposes_S2x4x96x1024_S2x1024x4x96_0_3_1_2
def rKS (c : Dev nD) : Vec F S2x1024x4 .f32 := transpose S2x1024x4 [0, 2, 1] (KS c (V m c main_arg0) (V m c main_v0) (V m c main_arg2) (V m c main_v1) (V m c main_arg4) (V m c main_v2)) transposes_S2x4x1024_S2x1024x4_0_2_1
def rVS (c : Dev nD) : Vec F S2x1024x4 .f32 := transpose S2x1024x4 [0, 2, 1] (VS c (V m c main_arg0) (V m c main_v0) (V m c main_arg2) (V m c main_v1) (V m c main_arg4) (V m c main_v2)) transposes_S2x4x1024_S2x1024x4_0_2_1

/-- THE RUN, read: the returned arrays, the arguments, the semaphores. -/
theorem run : θ_run defs (onTc (τ := τ) (main (F := F))) ⟨m, fun _ => 0, ρ⟩ (fun r => (∀ c : Dev nD,
      (r.2.mem ((c.tc : Thread nD τ).loc main_v5) = rKC m c ∧ r.2.mem ((c.tc : Thread nD τ).loc main_v8) = rKS m c
        ∧ r.2.mem ((c.tc : Thread nD τ).loc main_v7) = rVC m c ∧ r.2.mem ((c.tc : Thread nD τ).loc main_v9) = rVS m c)
      ∧ (      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)))
      ∧ r.2.sem = fun _ => 0) :=
  (θ_run defs _ _).mono (fun r h => ⟨fun c => ⟨⟨
      ((h.1 c) main_v5 (Pipeline.mem_restRefs_of main_v5 (by decide) (by decide))).trans ((tail_v5 (X m c)).trans (by rw [X_res m c main_v3_0 (by decide), G_0]; rfl)),
      ((h.1 c) main_v8 (Pipeline.mem_restRefs_of main_v8 (by decide) (by decide))).trans ((tail_v8 (X m c)).trans (by rw [X_res m c main_v3_1 (by decide), G_1]; rfl)),
      ((h.1 c) main_v7 (Pipeline.mem_restRefs_of main_v7 (by decide) (by decide))).trans ((tail_v7 (X m c)).trans (by rw [X_res m c main_v3_2 (by decide), G_2]; rfl)),
      ((h.1 c) main_v9 (Pipeline.mem_restRefs_of main_v9 (by decide) (by decide))).trans ((tail_v9 (X m c)).trans (by rw [X_res m c main_v3_3 (by decide), G_3]; rfl))⟩,
      ⟨((h.1 c) main_arg0 (Pipeline.mem_restRefs_of main_arg0 (by decide) (by decide))).trans ((tail_keep (X m c) main_arg0 (by decide)).trans ((X_keep m c main_arg0 (by decide)).trans (V_main_arg0 m c))),
      ((h.1 c) main_arg1 (Pipeline.mem_restRefs_of main_arg1 (by decide) (by decide))).trans ((tail_keep (X m c) main_arg1 (by decide)).trans ((X_keep m c main_arg1 (by decide)).trans (V_main_arg1 m c))),
      ((h.1 c) main_arg2 (Pipeline.mem_restRefs_of main_arg2 (by decide) (by decide))).trans ((tail_keep (X m c) main_arg2 (by decide)).trans ((X_keep m c main_arg2 (by decide)).trans (V_main_arg2 m c))),
      ((h.1 c) main_arg3 (Pipeline.mem_restRefs_of main_arg3 (by decide) (by decide))).trans ((tail_keep (X m c) main_arg3 (by decide)).trans ((X_keep m c main_arg3 (by decide)).trans (V_main_arg3 m c))),
      ((h.1 c) main_arg4 (Pipeline.mem_restRefs_of main_arg4 (by decide) (by decide))).trans ((tail_keep (X m c) main_arg4 (by decide)).trans ((X_keep m c main_arg4 (by decide)).trans (V_main_arg4 m c))),
      ((h.1 c) main_arg5 (Pipeline.mem_restRefs_of main_arg5 (by decide) (by decide))).trans ((tail_keep (X m c) main_arg5 (by decide)).trans ((X_keep m c main_arg5 (by decide)).trans (V_main_arg5 m c)))⟩⟩, h.2⟩) (run_main m ρ)

end Cert.KernelIdeal.Hand

end
-- ==== Proof.ReferenceRun.lean ====
/- The reference's run, read: it has one grid point and every window's block is its whole array, so each output array ends
   holding the stored payload at the argument arrays. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the run leaves where -/

/-- After the run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x1024x3584.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 1024 + 1 * (j 1).val = (j 1).val; omega
  | ⟨2, _⟩ => show win0_0.index t (2 : Fin 3) * 3584 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S3584.Idx) : ((cfg0.win 1).blk t).view.emb j = j := by
  have e0 := idx_zero1 t
  funext a; apply Fin.ext
  match a with
  | ⟨0, _⟩ => show win0_1.index t (0 : Fin 1) * 3584 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3584x384.Idx) : ((cfg0.win 2).blk t).view.emb j = j := by
  obtain ⟨e0, e1⟩ := idx_zero2 t
  funext a; apply Fin.ext
  match a with
  | ⟨0, _⟩ => show win0_2.index t (0 : Fin 2) * 3584 + 1 * (j 0).val = (j 0).val; omega
  | ⟨1, _⟩ => show win0_2.index t (1 : Fin 2) * 384 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S384.Idx) : ((cfg0.win 3).blk t).view.emb j = j := by
  have e0 := idx_zero3 t
  funext a; apply Fin.ext
  match a with
  | ⟨0, _⟩ => show win0_3.index t (0 : Fin 1) * 384 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3584x384.Idx) : ((cfg0.win 4).blk t).view.emb j = j := by
  obtain ⟨e0, e1⟩ := idx_zero4 t
  funext a; apply Fin.ext
  match a with
  | ⟨0, _⟩ => show win0_4.index t (0 : Fin 2) * 3584 + 1 * (j 0).val = (j 0).val; omega
  | ⟨1, _⟩ => show win0_4.index t (1 : Fin 2) * 384 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S384.Idx) : ((cfg0.win 5).blk t).view.emb j = j := by
  have e0 := idx_zero5 t
  funext a; apply Fin.ext
  match a with
  | ⟨0, _⟩ => show win0_5.index t (0 : Fin 1) * 384 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S2x1024x4x96.Idx) : ((cfg0.win 6).blk t).view.emb j = j := by
  obtain ⟨e0, e1, e2, e3⟩ := idx_zero6 t
  funext a; apply Fin.ext
  match a with
  | ⟨0, _⟩ => show win0_6.index t (0 : Fin 4) * 2 + 1 * (j 0).val = (j 0).val; omega
  | ⟨1, _⟩ => show win0_6.index t (1 : Fin 4) * 1024 + 1 * (j 1).val = (j 1).val; omega
  | ⟨2, _⟩ => show win0_6.index t (2 : Fin 4) * 4 + 1 * (j 2).val = (j 2).val; omega
  | ⟨3, _⟩ => show win0_6.index t (3 : Fin 4) * 96 + 1 * (j 3).val = (j 3).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x1024x4.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 1024 + 1 * (j 1).val = (j 1).val; omega
  | ⟨2, _⟩ => show win0_7.index t (2 : Fin 3) * 4 + 1 * (j 2).val = (j 2).val; omega

theorem hz8 : (![0, 0, 0, 0] : Fin 4 → Nat) = fun _ => 0 := funext fun a => by fin_cases a <;> rfl

/-- Window 8's block index at the one point is zero on every axis. -/
theorem idx_zero8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- An index of window 8's block is the same index of its array. -/
theorem emb8 (t : Fin cfg0.N) (j : S2x1024x4x96.Idx) : ((cfg0.win 8).blk t).view.emb j = j := by
  obtain ⟨e0, e1, e2, e3⟩ := idx_zero8 t
  funext a; apply Fin.ext
  match a with
  | ⟨0, _⟩ => show win0_8.index t (0 : Fin 4) * 2 + 1 * (j 0).val = (j 0).val; omega
  | ⟨1, _⟩ => show win0_8.index t (1 : Fin 4) * 1024 + 1 * (j 1).val = (j 1).val; omega
  | ⟨2, _⟩ => show win0_8.index t (2 : Fin 4) * 4 + 1 * (j 2).val = (j 2).val; omega
  | ⟨3, _⟩ => show win0_8.index t (3 : Fin 4) * 96 + 1 * (j 3).val = (j 3).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S2x1024x4.Idx) : ((cfg0.win 9).blk t).view.emb j = j := by
  obtain ⟨e0, e1, e2⟩ := idx_zero9 t
  funext a; apply Fin.ext
  match a with
  | ⟨0, _⟩ => show win0_9.index t (0 : Fin 3) * 2 + 1 * (j 0).val = (j 0).val; omega
  | ⟨1, _⟩ => show win0_9.index t (1 : Fin 3) * 1024 + 1 * (j 1).val = (j 1).val; omega
  | ⟨2, _⟩ => show win0_9.index t (2 : Fin 3) * 4 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S2x1024x3584 .bf16) (a1 : Vec F S3584 .f32) (a2 : Vec F S3584x384 .fp8e4m3) (a3 : Vec F S384 .f32) (a4 : Vec F S3584x384 .fp8e4m3) (a5 : Vec F S384 .f32) : Vec F S2x1024x4x96 .fp8e4m3 :=
  k0_pay9 (Scalar.ofBits .f32 0x43E00000#32) (k0_pay8 (k0_pay13 a0 a1 a2 a3 a4 a5) (k0_pay14 a0 a1 a2 a3 a4 a5))

/-- The one store through the whole rectangle leaves its payload. -/
theorem out6_eq (a0 : Vec F S2x1024x3584 .bf16) (a1 : Vec F S3584 .f32) (a2 : Vec F S3584x384 .fp8e4m3) (a3 : Vec F S384 .f32) (a4 : Vec F S3584x384 .fp8e4m3) (a5 : Vec F S384 .f32) : out0_6 (F := F) a0 a1 a2 a3 a4 a5 = G6 a0 a1 a2 a3 a4 a5 := by
  unfold out0_6
  rw [View.canon_unit_zero hz6]

/-- Cutting the point's block out of `X` and reading `X` through the block's view give the same. -/
theorem cut6_eq (t : Fin cfg0.N) (X : Vec F S2x1024x4x96 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S2x1024x4x96.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S2x1024x3584 .bf16) (a1 : Vec F S3584 .f32) (a2 : Vec F S3584x384 .fp8e4m3) (a3 : Vec F S384 .f32) (a4 : Vec F S3584x384 .fp8e4m3) (a5 : Vec F S384 .f32) : Vec F S2x1024x4 .f32 :=
  k0_pay7 (k0_pay13 a0 a1 a2 a3 a4 a5) (k0_pay14 a0 a1 a2 a3 a4 a5)

/-- The one store through the whole rectangle leaves its payload. -/
theorem out7_eq (a0 : Vec F S2x1024x3584 .bf16) (a1 : Vec F S3584 .f32) (a2 : Vec F S3584x384 .fp8e4m3) (a3 : Vec F S384 .f32) (a4 : Vec F S3584x384 .fp8e4m3) (a5 : Vec F S384 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S2x1024x4 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S2x1024x4.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S2x1024x3584 .bf16) (a1 : Vec F S3584 .f32) (a2 : Vec F S3584x384 .fp8e4m3) (a3 : Vec F S384 .f32) (a4 : Vec F S3584x384 .fp8e4m3) (a5 : Vec F S384 .f32) : Vec F S2x1024x4x96 .fp8e4m3 :=
  k0_pay12 (k0_pay15 a0 a1 a2 a3 a4 a5)

/-- The one store through the whole rectangle leaves its payload. -/
theorem out8_eq (a0 : Vec F S2x1024x3584 .bf16) (a1 : Vec F S3584 .f32) (a2 : Vec F S3584x384 .fp8e4m3) (a3 : Vec F S384 .f32) (a4 : Vec F S3584x384 .fp8e4m3) (a5 : Vec F S384 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S2x1024x4x96 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x1024x4x96.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S2x1024x3584 .bf16) (a1 : Vec F S3584 .f32) (a2 : Vec F S3584x384 .fp8e4m3) (a3 : Vec F S384 .f32) (a4 : Vec F S3584x384 .fp8e4m3) (a5 : Vec F S384 .f32) : Vec F S2x1024x4 .f32 :=
  k0_pay11 (k0_pay15 a0 a1 a2 a3 a4 a5)

/-- The one store through the whole rectangle leaves its payload. -/
theorem out9_eq (a0 : Vec F S2x1024x3584 .bf16) (a1 : Vec F S3584 .f32) (a2 : Vec F S3584x384 .fp8e4m3) (a3 : Vec F S384 .f32) (a4 : Vec F S3584x384 .fp8e4m3) (a5 : Vec F S384 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S2x1024x4 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S2x1024x4.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

section
variable (a0 : Vec F S2x1024x3584 .bf16) (a1 : Vec F S3584 .f32) (a2 : Vec F S3584x384 .fp8e4m3) (a3 : Vec F S384 .f32) (a4 : Vec F S3584x384 .fp8e4m3) (a5 : Vec F S384 .f32)

/-- A load of a whole array is the array: the projected keys, -/
theorem keys_eq : k0_pay13 a0 a1 a2 a3 a4 a5 = k0_pay2 a0 a1 a2 a3 := by
  unfold k0_pay13
  rw [View.ld_unit_zero hz0, View.ld_unit_zero hz1, View.ld_unit_zero hz2, View.ld_unit_zero hz3]

/-- and the values. -/
theorem values_eq : k0_pay15 a0 a1 a2 a3 a4 a5 = k0_pay5 (k0_pay1 a0 a1) a4 a5 := by
  unfold k0_pay15
  rw [View.ld_unit_zero hz0, View.ld_unit_zero hz1, View.ld_unit_zero hz2, View.ld_unit_zero hz3]

/-- Keys and values are quantized alike: the key codes, -/
theorem G6_eq : G6 a0 a1 a2 a3 a4 a5 = k0_pay12 (k0_pay4 (k0_pay2 a0 a1 a2 a3) k0_pay3) := by
  show k0_pay12 (k0_pay4 (k0_pay13 a0 a1 a2 a3 a4 a5) k0_pay3) = _
  rw [keys_eq]
/-- their scales, -/
theorem G7_eq : G7 a0 a1 a2 a3 a4 a5 = k0_pay11 (k0_pay4 (k0_pay2 a0 a1 a2 a3) k0_pay3) := by
  show k0_pay11 (k0_pay4 (k0_pay13 a0 a1 a2 a3 a4 a5) k0_pay3) = _
  rw [keys_eq]
/-- the value codes, -/
theorem G8_eq : G8 a0 a1 a2 a3 a4 a5 = k0_pay12 (k0_pay5 (k0_pay1 a0 a1) a4 a5) := by
  show k0_pay12 (k0_pay15 a0 a1 a2 a3 a4 a5) = _
  rw [values_eq]
/-- their scales. -/
theorem G9_eq : G9 a0 a1 a2 a3 a4 a5 = k0_pay11 (k0_pay5 (k0_pay1 a0 a1) a4 a5) := by
  show k0_pay11 (k0_pay15 a0 a1 a2 a3 a4 a5) = _
  rw [values_eq]
end

end Cert.ReferenceIdeal.Hand

end
-- ==== Proof.Projections.lean ====
module

public import proofs.«01_k».proof.Proof.KernelIdealLoads
public import proofs.«01_k».proof.Proof.ReferenceRun

@[expose] public section

set_option maxRecDepth 16384

noncomputable section

namespace Cert.Value

open Cert.KernelIdeal.Hand
open Cert.KernelIdeal (S1x128 S28x128 S3x128 S1x3584 S1x768 S256x768 S1x256x3584 S256x3584 S3584x768 S48x256 S96x256 S768x256 S48x1024)
open Idealize.ShloMosaic Idealize.ShloMosaic.TcCoe Idealize.ShloMosaic.Tactic

/-- Token `256 * lb + r` of a batch row: token `r` of its block `lb`. -/
def tok (lb : Fin 4) (r : Fin 256) : Fin 1024 := ⟨256 * lb.val + r.val, by omega⟩

variable (c : Dev Cert.KernelIdeal.nD)
variable (a0 : Vec Ideal Cert.KernelIdeal.S2x1024x3584 .bf16) (a1 : Vec Ideal S28x128 .f32) (a2 a4 : Vec Ideal Cert.KernelIdeal.S3584x384 .fp8e4m3)
variable (a3 a5 : Vec Ideal S3x128 .f32)
variable (g : Vec Ideal Cert.ReferenceIdeal.S3584 .f32) (sk sv : Vec Ideal Cert.ReferenceIdeal.S384 .f32)

/-- The rows of 128 of `a` are `v` cut up. -/
def Rows (n : ℕ) {N : ℕ} (a : Vec Ideal ⟨2, ![n, 128]⟩ .f32) (v : Vec Ideal ⟨1, ![N]⟩ .f32) : Prop :=
  ∀ (i : Fin n) (l : Fin 128) (h : 128 * i.val + l.val < N), a (ix2 i l) = v (ix1 ⟨128 * i.val + l.val, h⟩)

/-- The gain's row holds the gain. -/
theorem gain_apply (hg : Rows 28 a1 g) (i : Fin 3584) : gainV c a1 (ix2 0 i) = g (ix1 i) := by
  unfold gainV Cert.KernelIdeal.Gen.k0_pay4
  refine (concatenate_ofFn_apply (t := S1x3584) 1 (fun n : Fin 28 => gRow c a1 n) _ rfl 128 rfl (ix2 0 i) ⟨i.val / 128, by omega⟩ rfl
    (ix2 0 ⟨i.val % 128, by omega⟩) rfl (fun b hb => ?_)).trans ?_
  · fin_cases b
    · rfl
    · exact absurd rfl hb
  · have e : 128 * (i.val / 128) + i.val % 128 = i.val := by omega
    exact (hg ⟨i.val / 128, by omega⟩ ⟨i.val % 128, by omega⟩ (by show 128 * (i.val / 128) + i.val % 128 < 3584; omega)).trans
      (congrArg (fun z => g (ix1 z)) (Fin.ext e))

/-- The normalised block is the reference's normalised input at the block's tokens. -/
theorem norm_apply (hg : Rows 28 a1 g) (b : Fin 2) (lb : Fin 4) (r : Fin 256) (i : Fin 3584) :
    hbOf (gainV c a1) (xBlk c a0 b lb) (ix2 r i) = Cert.ReferenceIdeal.Gen.k0_pay1 (F := Ideal) a0 g (ix3 b (tok lb r) i) := by
  pointwise [hbOf, Cert.KernelIdeal.Gen.k0_pay6, Cert.ReferenceIdeal.Gen.k0_pay1]
  rw [gain_apply c a1 g hg i]
  rfl

/-- Three rows of 128 side by side. -/
theorem row3 (a : Vec Ideal S3x128 .f32) (v : Vec Ideal Cert.ReferenceIdeal.S384 .f32) (ha : Rows 3 a v)
    (h : Shape.Concatenates [S1x128, S1x128, S1x128] Cert.KernelIdeal.S1x384 1) (n : Fin 384) :
    concatenate (α := Elt Ideal .f32) Cert.KernelIdeal.S1x384 1 [⟨S1x128, skRow c a 0⟩, ⟨S1x128, skRow c a 1⟩, ⟨S1x128, skRow c a 2⟩] h (ix2 0 n) = v (ix1 n) := by
  refine (concatenate_ofFn_apply (t := Cert.KernelIdeal.S1x384) 1 (fun n : Fin 3 => skRow c a n) _ rfl 128 rfl (ix2 0 n) ⟨n.val / 128, by omega⟩ rfl
    (ix2 0 ⟨n.val % 128, by omega⟩) rfl (fun b hb => ?_)).trans ?_
  · fin_cases b
    · rfl
    · exact absurd rfl hb
  · have e : 128 * (n.val / 128) + n.val % 128 = n.val := by omega
    exact (ha ⟨n.val / 128, by omega⟩ ⟨n.val % 128, by omega⟩ (by show 128 * (n.val / 128) + n.val % 128 < 384; omega)).trans
      (congrArg (fun z => v (ix1 z)) (Fin.ext e))

/-- The row of the columns' scales: the keys' in the first half, -/
theorem scale_k (hk : Rows 3 a3 sk) (n : Fin 384) : wscaleV c a3 a5 (ix2 0 ⟨n.val, by omega⟩) = sk (ix1 n) := by
  unfold wscaleV Cert.KernelIdeal.Gen.k0_pay5
  refine (concatenate_pair_apply_left (t := S1x768) (s₁ := Cert.KernelIdeal.S1x384) (s₂ := Cert.KernelIdeal.S1x384) 1 _ _ _ (ix2 0 ⟨n.val, by omega⟩) rfl (ix2 0 n) (fun b => ?_)).trans
    (row3 c a3 sk hk _ n)
  fin_cases b <;> rfl

/-- the values' in the second. -/
theorem scale_v (hv : Rows 3 a5 sv) (n : Fin 384) : wscaleV c a3 a5 (ix2 0 ⟨384 + n.val, by omega⟩) = sv (ix1 n) := by
  unfold wscaleV Cert.KernelIdeal.Gen.k0_pay5
  refine (concatenate_pair_apply_right (t := S1x768) (s₁ := Cert.KernelIdeal.S1x384) (s₂ := Cert.KernelIdeal.S1x384) 1 _ _ _ (ix2 0 ⟨384 + n.val, by omega⟩) rfl rfl (ix2 0 n) (fun b hb => ?_) ?_).trans
    (row3 c a5 sv hv _ n)
  · fin_cases b
    · rfl
    · exact absurd rfl hb
  · show n.val + 384 = 384 + n.val; omega

/-- The angle table, which the reference lays out by token. -/
theorem angle_apply (i : Fin 48) (t : Fin 1024) :
    Cert.KernelIdeal.Gen.k0_pay1 (F := Ideal) (ix2 i t) = Cert.ReferenceIdeal.Gen.k0_pay3 (F := Ideal) (ix4 0 t 0 i) := by
  pointwise [Cert.KernelIdeal.Gen.k0_pay1, Cert.ReferenceIdeal.Gen.k0_pay3]

/-- The weights the products read: the keys' columns first, -/
theorem weight_k (k : Fin 3584) (n : Fin 384) : kernelRun.sl.v133 (F := Ideal) c a2 a4 (ix2 k ⟨n.val, by omega⟩) = a2 (ix2 k n) := by
  unfold kernelRun.sl.v133
  rw [View.readCov_eq_canon']
  refine (congrArg (View.canon _) (show _ = (Rect.unit (s := S3584x768) ![0, 0] Cert.KernelIdeal.S3584x384.size (by decide)).emb (ix2 k n) from ?_)).trans
    ((View.canon_cons_of_not_mem _ _ ?_).trans (View.canon_cons_emb ..))
  · refine funext fun i => Fin.ext ?_
    fin_cases i
    · show 0 + 1 * k.val = 0 + 1 * k.val; rfl
    · show 0 + 1 * n.val = 0 + 1 * n.val; rfl
  · intro hm
    have h1 := (Rect.mem_set_unit (s := S3584x768) (off := ![0, 384]) (size := Cert.KernelIdeal.S3584x384.size) (inb := by decide).mp hm 1).1
    have : 384 ≤ 0 + 1 * n.val := h1
    omega

/-- the values' after them. -/
theorem weight_v (k : Fin 3584) (n : Fin 384) : kernelRun.sl.v133 (F := Ideal) c a2 a4 (ix2 k ⟨384 + n.val, by omega⟩) = a4 (ix2 k n) := by
  unfold kernelRun.sl.v133
  rw [View.readCov_eq_canon']
  refine (congrArg (View.canon _) (show _ = (Rect.unit (s := S3584x768) ![0, 384] Cert.KernelIdeal.S3584x384.size (by decide)).emb (ix2 k n) from ?_)).trans
    (View.canon_cons_emb ..)
  refine funext fun i => Fin.ext ?_
  fin_cases i
  · show 0 + 1 * k.val = 0 + 1 * k.val; rfl
  · show 0 + 1 * (384 + n.val) = 384 + 1 * n.val; omega

/-- The key projection of a block is the reference's at the block's tokens. -/
theorem proj_k (hg : Rows 28 a1 g) (hk : Rows 3 a3 sk) (b : Fin 2) (lb : Fin 4) (r : Fin 256) (h : Fin 4) (d : Fin 96) :
    accV c a0 a1 a2 a3 a4 a5 b lb (ix2 r ⟨96 * h.val + d.val, by omega⟩) = Cert.ReferenceIdeal.Gen.k0_pay2 (F := Ideal) a0 g a2 sk (ix4 b (tok lb r) h d) := by
  unfold accV accOf
  pointwise [Cert.KernelIdeal.Gen.k0_pay8, Cert.KernelIdeal.Gen.k0_pay7, Cert.ReferenceIdeal.Gen.k0_pay2]
  have e : h.val * 96 + d.val = 96 * h.val + d.val := by omega
  simp only [e]
  refine congrArg₂ (· * ·) (Finset.sum_congr rfl fun k _ => congrArg₂ (· * ·) (norm_apply c a0 a1 g hg b lb r k) ?_) ?_
  · exact weight_k c a2 a4 k ⟨96 * h.val + d.val, by omega⟩
  · exact scale_k c a3 a5 sk hk ⟨96 * h.val + d.val, by omega⟩

/-- The value projection of a block is the reference's at the block's tokens. -/
theorem proj_v (hg : Rows 28 a1 g) (hv : Rows 3 a5 sv) (b : Fin 2) (lb : Fin 4) (r : Fin 256) (h : Fin 4) (d : Fin 96) :
    accV c a0 a1 a2 a3 a4 a5 b lb (ix2 r ⟨96 * h.val + 384 + d.val, by omega⟩)
      = Cert.ReferenceIdeal.Gen.k0_pay5 (F := Ideal) (Cert.ReferenceIdeal.Gen.k0_pay1 a0 g) a4 sv (ix4 b (tok lb r) h d) := by
  unfold accV accOf
  pointwise [Cert.KernelIdeal.Gen.k0_pay8, Cert.KernelIdeal.Gen.k0_pay7, Cert.ReferenceIdeal.Gen.k0_pay5]
  have e : h.val * 96 + d.val = 96 * h.val + d.val := by omega
  have e' : 96 * h.val + 384 + d.val = 384 + (96 * h.val + d.val) := by omega
  simp only [e, e']
  refine congrArg₂ (· * ·) (Finset.sum_congr rfl fun k _ => congrArg₂ (· * ·) (norm_apply c a0 a1 g hg b lb r k) ?_) ?_
  · exact weight_v c a2 a4 k ⟨96 * h.val + d.val, by omega⟩
  · exact scale_v c a3 a5 sv hv ⟨96 * h.val + d.val, by omega⟩

end Cert.Value
-- ==== Proof.Quantize.lean ====
module

public import proofs.«01_k».proof.Proof.KernelIdealResults
public import proofs.«01_k».proof.Proof.Projections

@[expose] public section

set_option maxRecDepth 16384

noncomputable section

namespace Cert.Value

open Cert.KernelIdeal.Hand
open Cert.KernelIdeal (S1x128 S28x128 S3x128 S1x3584 S1x768 S256x768 S1x256x3584 S256x3584 S3584x768 S48x256 S96x256 S768x256 S48x1024)
open Idealize.ShloMosaic Idealize.ShloMosaic.TcCoe Idealize.ShloMosaic.Tactic

open Cert.ReferenceIdeal (S2x1024x4x96 S1x1024x1x48 S2x1024x4)

/-- The rotation: the halves of a head's columns turned by the token's angles, as the reference turns them. -/
theorem rope_apply (h : Fin 4) (A : Vec Ideal S256x768 .f32) (b : Fin 2) (lb : Fin 4) (K : Vec Ideal S2x1024x4x96 .f32)
    (hA : ∀ (r : Fin 256) (d : Fin 96), A (ix2 r ⟨96 * h.val + d.val, by omega⟩) = K (ix4 b (tok lb r) h d)) (d : Fin 96) (r : Fin 256) :
    kBlk h A (tabAt Cert.KernelIdeal.Gen.k0_pay2 lb) (tabAt Cert.KernelIdeal.Gen.k0_pay3 lb) (ix2 d r)
      = Cert.ReferenceIdeal.Gen.k0_pay4 (F := Ideal) K Cert.ReferenceIdeal.Gen.k0_pay3 (ix4 b (tok lb r) h d) := by
  pointwise [kBlk, Cert.KernelIdeal.Gen.k0_pay9, Cert.KernelIdeal.Gen.k0_pay2, Cert.KernelIdeal.Gen.k0_pay3, Cert.ReferenceIdeal.Gen.k0_pay4, tabAt]
  have e1 : Cert.KernelIdeal.Gen.k0_pay1 (F := Ideal) = fun x => Cert.ReferenceIdeal.Gen.k0_pay3 (F := Ideal) (ix4 0 (x 1) 0 (x 0)) :=
    funext fun x => (congrArg _ (eq_ix2 x)).trans (angle_apply (x 0) (x 1))
  rw [e1]
  by_cases hd : d.val < 48
  · rw [dif_pos hd, dif_pos hd]
    have h0 := hA r d
    have h1 := hA r ⟨48 + d.val, by omega⟩
    have e : 96 * h.val + 48 + d.val = 96 * h.val + (48 + d.val) := by omega
    simp only [e]
    rw [h0, h1]
    rfl
  · rw [dif_neg hd, dif_neg hd]
    have h0 := hA r ⟨d.val - 48, by omega⟩
    have h1 := hA r ⟨48 + (d.val - 48), by omega⟩
    have e : 96 * h.val + 48 + (d.val - 48) = 96 * h.val + (48 + (d.val - 48)) := by omega
    simp only [e]
    rw [h0, h1]
    rfl

/-- A head's columns of the projection, token by token. -/
theorem head_apply (h : Fin 4) (A : Vec Ideal S256x768 .f32) (b : Fin 2) (lb : Fin 4) (K : Vec Ideal S2x1024x4x96 .f32)
    (hA : ∀ (r : Fin 256) (d : Fin 96), A (ix2 r ⟨96 * h.val + 384 + d.val, by omega⟩) = K (ix4 b (tok lb r) h d)) (d : Fin 96) (r : Fin 256) :
    vBlk h A (ix2 d r) = K (ix4 b (tok lb r) h d) := by
  pointwise [vBlk, Cert.KernelIdeal.Gen.k0_pay9]
  exact hA r d

/-- The exponent of a column is the reference's for the token and head. -/
theorem exp_apply (v : FVec Ideal S96x256 .f32) (K : Vec Ideal S2x1024x4x96 .f32) (b : Fin 2) (lb : Fin 4) (h : Fin 4)
    (hv : ∀ (d : Fin 96) (r : Fin 256), v (ix2 d r) = K (ix4 b (tok lb r) h d)) (r : Fin 256) :
    expOf v (ix2 0 r) = Cert.ReferenceIdeal.Gen.k0_pay10 (F := Ideal) K (ix3 b (tok lb r) h) := by
  pointwise [expOf, Cert.ReferenceIdeal.Gen.k0_pay10]
  simp only [hv]

/-- So is the scale, -/
theorem scale_apply (v : FVec Ideal S96x256 .f32) (K : Vec Ideal S2x1024x4x96 .f32) (b : Fin 2) (lb : Fin 4) (h : Fin 4)
    (hv : ∀ (d : Fin 96) (r : Fin 256), v (ix2 d r) = K (ix4 b (tok lb r) h d)) (r : Fin 256) :
    scaleOf v (ix3 0 0 r) = Cert.ReferenceIdeal.Gen.k0_pay11 (F := Ideal) K (ix3 b (tok lb r) h) := by
  pointwise [scaleOf, Cert.ReferenceIdeal.Gen.k0_pay11]
  rw [exp_apply v K b lb h hv r]

/-- and so are the codes. -/
theorem codes_apply (v : FVec Ideal S96x256 .f32) (K : Vec Ideal S2x1024x4x96 .f32) (b : Fin 2) (lb : Fin 4) (h : Fin 4)
    (hv : ∀ (d : Fin 96) (r : Fin 256), v (ix2 d r) = K (ix4 b (tok lb r) h d)) (d : Fin 96) (r : Fin 256) :
    codesOf v (ix3 0 d r) = Cert.ReferenceIdeal.Gen.k0_pay12 (F := Ideal) K (ix4 b (tok lb r) h d) := by
  pointwise [codesOf, Cert.ReferenceIdeal.Gen.k0_pay12]
  rw [exp_apply v K b lb h hv r, hv d r]

end Cert.Value
-- ==== Proof.Values.lean ====
module

public import proofs.«01_k».proof.Proof.KernelIdealFrame
public import proofs.«01_k».proof.Proof.Quantize

@[expose] public section

set_option maxRecDepth 16384

noncomputable section

namespace Cert.Value

open Cert.KernelIdeal.Hand
open Cert.KernelIdeal (S1x128 S28x128 S3x128 S1x3584 S1x768 S256x768 S1x256x3584 S256x3584 S3584x768 S48x256 S96x256 S768x256 S48x1024)
open Idealize.ShloMosaic Idealize.ShloMosaic.TcCoe Idealize.ShloMosaic.Tactic

open Cert.KernelIdeal (nD τ sig S1x96x256 S1x1x256 S2x1024x4x96 S2x1024x4)
open Cert.KernelIdeal Cert.KernelIdeal.Gen
open Idealize.SL.Sem

/-- Reading the tiles by head, column, token. -/
theorem asmCodes_at (f : Fin 2 × Fin 4 × Fin 4 → S1x96x256.Idx → EReal) (b : Fin 2) (t : Fin 1024) (h : Fin 4) (d : Fin 96) :
    asmCodes f (ix3 b ⟨96 * h.val + d.val, by omega⟩ t) = f (b, ⟨t.val / 256, by omega⟩, h) (ix3 0 d ⟨t.val % 256, by omega⟩) := by
  have key : ∀ h' d', h' = h → d' = d → f (b, ⟨t.val / 256, by omega⟩, h') (ix3 0 d' ⟨t.val % 256, by omega⟩)
      = f (b, ⟨t.val / 256, by omega⟩, h) (ix3 0 d ⟨t.val % 256, by omega⟩) := by rintro _ _ rfl rfl; rfl
  refine key _ _ (Fin.ext ?_) (Fin.ext ?_)
  · show (96 * h.val + d.val) / 96 = h.val; omega
  · show (96 * h.val + d.val) % 96 = d.val; omega

/-- A token is the token `t % 256` of the block `t / 256`. -/
theorem tok_div_mod (t : Fin 1024) : tok ⟨t.val / 256, by omega⟩ ⟨t.val % 256, by omega⟩ = t := Fin.ext (by show 256 * (t.val / 256) + t.val % 256 = t.val; omega)

variable (m : (ℓ : Loc nD τ sig) → Buf (Elt Ideal) ℓ) (c : Dev nD)

/-- The layout the host gives the codes: by batch row, token, head, column. -/
theorem layout_codes (X : Vec Ideal Cert.KernelIdeal.S2x384x1024 .fp8e4m3) (h1 h2) (b : Fin 2) (t : Fin 1024) (h : Fin 4) (d : Fin 96) :
    (transpose S2x1024x4x96 [0, 3, 1, 2] (shapeCast S2x4x96x1024 X h1) h2 : Vec Ideal S2x1024x4x96 .fp8e4m3) (ix4 b t h d)
      = X (ix3 b ⟨96 * h.val + d.val, by omega⟩ t) := by
  pointwise []
  refine congrArg X (congrArg (fun z => ix3 b z t) (Fin.ext ?_))
  show h.val * 96 + d.val = 96 * h.val + d.val
  omega

/-- The layout of the scales: by batch row, token, head. -/
theorem layout_scales (X : Vec Ideal Cert.KernelIdeal.S2x4x1024 .f32) (h2) (b : Fin 2) (t : Fin 1024) (h : Fin 4) :
    (transpose S2x1024x4 [0, 2, 1] X h2 : Vec Ideal S2x1024x4 .f32) (ix3 b t h) = X (ix3 b h t) := by
  pointwise []

/-! ## The four results from what the launch finds -/

section
variable (c : Dev nD)
variable (a0 : Vec Ideal Cert.KernelIdeal.S2x1024x3584 .bf16) (a1 : Vec Ideal S28x128 .f32) (a2 a4 : Vec Ideal Cert.KernelIdeal.S3584x384 .fp8e4m3)
variable (a3 a5 : Vec Ideal S3x128 .f32)
variable (g : Vec Ideal Cert.ReferenceIdeal.S3584 .f32) (sk sv : Vec Ideal Cert.ReferenceIdeal.S384 .f32)

/-- The reference's keys: projected, then turned. -/
abbrev refK : Vec Ideal S2x1024x4x96 .f32 := Cert.ReferenceIdeal.Gen.k0_pay4 (F := Ideal) (Cert.ReferenceIdeal.Gen.k0_pay2 a0 g a2 sk) Cert.ReferenceIdeal.Gen.k0_pay3
/-- The reference's values. -/
abbrev refV : Vec Ideal S2x1024x4x96 .f32 := Cert.ReferenceIdeal.Gen.k0_pay5 (F := Ideal) (Cert.ReferenceIdeal.Gen.k0_pay1 a0 g) a4 sv

/-- A head's keys on one block of tokens. -/
theorem key_apply (hg : Rows 28 a1 g) (hk : Rows 3 a3 sk) (b : Fin 2) (lb h : Fin 4) (d : Fin 96) (r : Fin 256) :
    kOf c a0 a1 a2 a3 a4 a5 (b, lb, h) (ix2 d r) = refK a0 a2 g sk (ix4 b (tok lb r) h d) :=
  rope_apply h _ b lb _ (fun r d => proj_k c a0 a1 a2 a4 a3 a5 g sk hg hk b lb r h d) d r

/-- A head's values on one block of tokens. -/
theorem value_apply (hg : Rows 28 a1 g) (hv : Rows 3 a5 sv) (b : Fin 2) (lb h : Fin 4) (d : Fin 96) (r : Fin 256) :
    vOf c a0 a1 a2 a3 a4 a5 (b, lb, h) (ix2 d r) = refV a0 a4 g sv (ix4 b (tok lb r) h d) :=
  head_apply h _ b lb _ (fun r d => proj_v c a0 a1 a2 a4 a3 a5 g sv hg hv b lb r h d) d r

/-- Codes put together from tiles are the reference's, laid out as it lays them out. -/
theorem codes_all (f : Fin 2 × Fin 4 × Fin 4 → Vec Ideal S96x256 .f32) (K : Vec Ideal S2x1024x4x96 .f32)
    (hf : ∀ b lb h d r, f (b, lb, h) (ix2 d r) = K (ix4 b (tok lb r) h d)) (h1 h2) :
    (transpose S2x1024x4x96 [0, 3, 1, 2] (shapeCast S2x4x96x1024 (asmCodes fun p => codesOf (F := Ideal) (f p) : Vec Ideal Cert.KernelIdeal.S2x384x1024 .fp8e4m3) h1) h2 : Vec Ideal S2x1024x4x96 .fp8e4m3)
      = Cert.ReferenceIdeal.Gen.k0_pay12 (F := Ideal) K := by
  funext y
  obtain ⟨b, t, h, d, rfl⟩ : ∃ (b : Fin 2) (t : Fin 1024) (h : Fin 4) (d : Fin 96), y = ix4 b t h d := ⟨y 0, y 1, y 2, y 3, eq_ix4 y⟩
  refine (layout_codes _ h1 h2 b t h d).trans ((asmCodes_at _ b t h d).trans ?_)
  refine (codes_apply _ K b ⟨t.val / 256, by omega⟩ h (hf b _ h) d ⟨t.val % 256, by omega⟩).trans ?_
  rw [tok_div_mod]

/-- So are the scales. -/
theorem scales_all (f : Fin 2 × Fin 4 × Fin 4 → Vec Ideal S96x256 .f32) (K : Vec Ideal S2x1024x4x96 .f32)
    (hf : ∀ b lb h d r, f (b, lb, h) (ix2 d r) = K (ix4 b (tok lb r) h d)) (h2) :
    (transpose S2x1024x4 [0, 2, 1] (asmScales fun p => scaleOf (F := Ideal) (f p) : Vec Ideal Cert.KernelIdeal.S2x4x1024 .f32) h2 : Vec Ideal S2x1024x4 .f32)
      = Cert.ReferenceIdeal.Gen.k0_pay11 (F := Ideal) K := by
  funext y
  obtain ⟨b, t, h, rfl⟩ : ∃ (b : Fin 2) (t : Fin 1024) (h : Fin 4), y = ix3 b t h := ⟨y 0, y 1, y 2, eq_ix3 y⟩
  refine (layout_scales _ h2 b t h).trans ?_
  refine (scale_apply (f (b, ⟨t.val / 256, by omega⟩, h)) K b ⟨t.val / 256, by omega⟩ h (hf b _ h) ⟨t.val % 256, by omega⟩).trans ?_
  rw [tok_div_mod]
end

/-! ## The vectors, which the kernel is given in rows of 128 -/

section
variable (m : (ℓ : Loc nD τ sig) → Buf (Elt Ideal) ℓ) (c : Dev nD)

/-- The host lays the gain out in rows, -/
theorem rows_gain : Rows 28 (V m c main_v0) (m ((c.tc : Thread nD τ).loc main_arg1)) := by
  have e : V m c main_v0 = shapeCast S28x128 (m ((c.tc : Thread nD τ).loc main_arg1)) shapeCasts_S3584_S28x128 := by
    simp only [V, V0, hostOps0, List.flatten_cons, List.flatten_nil, List.append_nil, List.cons_append, List.nil_append]
    after_results_simp
    rfl
  intro i l hl
  rw [e]
  pointwise []
  have e' : i.val * 128 + l.val = 128 * i.val + l.val := by omega
  simp only [e']

/-- the scales of the keys' columns, -/
theorem rows_sk : Rows 3 (V m c main_v1) (m ((c.tc : Thread nD τ).loc main_arg3)) := by
  have e : V m c main_v1 = shapeCast S3x128 (m ((c.tc : Thread nD τ).loc main_arg3)) shapeCasts_S384_S3x128 := by
    simp only [V, V0, hostOps0, List.flatten_cons, List.flatten_nil, List.append_nil, List.cons_append, List.nil_append]
    after_results_simp
    rfl
  intro i l hl
  rw [e]
  pointwise []
  have e' : i.val * 128 + l.val = 128 * i.val + l.val := by omega
  simp only [e']

/-- and those of the values'. -/
theorem rows_sv : Rows 3 (V m c main_v2) (m ((c.tc : Thread nD τ).loc main_arg5)) := by
  have e : V m c main_v2 = shapeCast S3x128 (m ((c.tc : Thread nD τ).loc main_arg5)) shapeCasts_S384_S3x128 := by
    simp only [V, V0, hostOps0, List.flatten_cons, List.flatten_nil, List.append_nil, List.cons_append, List.nil_append]
    after_results_simp
    rfl
  intro i l hl
  rw [e]
  pointwise []
  have e' : i.val * 128 + l.val = 128 * i.val + l.val := by omega
  simp only [e']

/-! ## The run's results are the reference's -/

/-- The key codes, -/
theorem codes_k : rKC m c = Cert.ReferenceIdeal.Gen.k0_pay12 (F := Ideal) (refK (m ((c.tc : Thread nD τ).loc main_arg0)) (m ((c.tc : Thread nD τ).loc main_arg2)) (m ((c.tc : Thread nD τ).loc main_arg1)) (m ((c.tc : Thread nD τ).loc main_arg3))) := by
  rw [← V_main_arg0 m c, ← V_main_arg2 m c]
  exact codes_all _ _ (fun b lb h d r => key_apply c _ _ _ _ _ _ _ _ (rows_gain m c) (rows_sk m c) b lb h d r) _ _

/-- the keys' scales, -/
theorem scales_k : rKS m c = Cert.ReferenceIdeal.Gen.k0_pay11 (F := Ideal) (refK (m ((c.tc : Thread nD τ).loc main_arg0)) (m ((c.tc : Thread nD τ).loc main_arg2)) (m ((c.tc : Thread nD τ).loc main_arg1)) (m ((c.tc : Thread nD τ).loc main_arg3))) := by
  rw [← V_main_arg0 m c, ← V_main_arg2 m c]
  exact scales_all _ _ (fun b lb h d r => key_apply c _ _ _ _ _ _ _ _ (rows_gain m c) (rows_sk m c) b lb h d r) _

/-- the value codes, -/
theorem codes_v : rVC m c = Cert.ReferenceIdeal.Gen.k0_pay12 (F := Ideal) (refV (m ((c.tc : Thread nD τ).loc main_arg0)) (m ((c.tc : Thread nD τ).loc main_arg4)) (m ((c.tc : Thread nD τ).loc main_arg1)) (m ((c.tc : Thread nD τ).loc main_arg5))) := by
  rw [← V_main_arg0 m c, ← V_main_arg4 m c]
  exact codes_all _ _ (fun b lb h d r => value_apply c _ _ _ _ _ _ _ _ (rows_gain m c) (rows_sv m c) b lb h d r) _ _

/-- and the values' scales. -/
theorem scales_v : rVS m c = Cert.ReferenceIdeal.Gen.k0_pay11 (F := Ideal) (refV (m ((c.tc : Thread nD τ).loc main_arg0)) (m ((c.tc : Thread nD τ).loc main_arg4)) (m ((c.tc : Thread nD τ).loc main_arg1)) (m ((c.tc : Thread nD τ).loc main_arg5))) := by
  rw [← V_main_arg0 m c, ← V_main_arg4 m c]
  exact scales_all _ _ (fun b lb h d r => value_apply c _ _ _ _ _ _ _ _ (rows_gain m c) (rows_sv m c) b lb h d r) _
end

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Values
public import Idealize.ShloMosaic.Adequacy
public import Idealize.ShloMosaic.Init

@[expose] public section

noncomputable section

namespace Cert.Proof

open Idealize.ShloMosaic Idealize.SL.Sem Cert.Kernel

/-- From memories that agree on the arguments both programs run and end with the same codes and scales. -/
theorem algebraic : @Cert.algebraic_KernelIdeal_ReferenceIdeal Cert.KernelIdeal.Gen.facts Cert.ReferenceIdeal.Gen.facts := by
  intro m g m' g' _ hm
  refine ⟨fun c => Cert.KernelIdeal.Hand.rKC m c, fun c => Cert.KernelIdeal.Hand.rKS m c, fun c => Cert.KernelIdeal.Hand.rVC m c,
    fun c => Cert.KernelIdeal.Hand.rVS m c, ?_, ?_⟩
  · exact (θ_run _ _ _).mono (fun r h c => ⟨(h.1 c).1.1, (h.1 c).1.2.1, (h.1 c).1.2.2.1, (h.1 c).1.2.2.2, (h.1 c).2⟩) (Cert.KernelIdeal.Hand.run m g)
  · refine (θ_run _ _ _).mono (fun r h c => ?_) (Cert.ReferenceIdeal.Hand.run m' g')
    obtain ⟨e0, e1, e2, e3, e4, e5⟩ := hm c
    obtain ⟨h0, h1, h2, h3, h4⟩ := h c
    refine ⟨h0.trans ?_, h1.trans ?_, h2.trans ?_, h3.trans ?_, h4⟩
    · rw [Cert.ReferenceIdeal.Hand.G6_eq, e0, e1, e2, e3]; exact (Cert.Value.codes_k m c).symm
    · rw [Cert.ReferenceIdeal.Hand.G7_eq, e0, e1, e2, e3]; exact (Cert.Value.scales_k m c).symm
    · rw [Cert.ReferenceIdeal.Hand.G8_eq, e0, e1, e4, e5]; exact (Cert.Value.codes_v m c).symm
    · rw [Cert.ReferenceIdeal.Hand.G9_eq, e0, e1, e4, e5]; exact (Cert.Value.scales_v m c).symm

theorem claim : Cert.Claim := ⟨Cert.Kernel.Gen.facts, Cert.KernelIdeal.Gen.facts, Cert.ReferenceIdeal.Gen.facts,
  fun m g _ => Cert.Kernel.Hand.frame m g,
  fun m g _ => (θ_run _ _ _).mono (fun r h => ⟨fun c => (h.1 c).2, h.2⟩) (Cert.KernelIdeal.Hand.run m g),
  fun m g _ => Cert.ReferenceIdeal.Gen.frame m g,
  trivial,
  algebraic⟩

end Cert.Proof

end
